-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_

variable [Facts]

def fn {F : FTy → Type} [FloatOps F] (main_arg0 : FVec F S100000x512 .f32) (main_arg1 : IVec S100000 32) (main_arg2 : FVec F S512x512 .f32) (main_arg3 : FVec F S512 .f32) (main_arg4 : FVec F S1x512 .f32) (main_arg5 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 1024#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![1] · slices_S100000_S99999_1) main_arg1
  let main_v7 : IVec S99999 32 := (extractStridedSlice S99999 ![0] · slices_S100000_S99999_0) main_arg1
  let main_v8 : IVec S99999 1 := cmpi .sge main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  main_v10
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩
abbrev S102400 : Shape := ⟨1, ![102400]⟩
abbrev S20x1x5120 : Shape := ⟨3, ![20, 1, 5120]⟩
abbrev S20x5120 : Shape := ⟨2, ![20, 5120]⟩
abbrev S20x1 : Shape := ⟨2, ![20, 1]⟩
abbrev S20 : Shape := ⟨1, ![20]⟩
abbrev S512x1 : Shape := ⟨2, ![512, 1]⟩
abbrev S1x1 : Shape := ⟨2, ![1, 1]⟩
abbrev S1024x512 : Shape := ⟨2, ![1024, 512]⟩
abbrev S5120x512 : Shape := ⟨2, ![5120, 512]⟩
abbrev S1x1x5120 : Shape := ⟨3, ![1, 1, 5120]⟩
abbrev S1160x512 : Shape := ⟨2, ![1160, 512]⟩
abbrev S1160x1 : Shape := ⟨2, ![1160, 1]⟩
abbrev S512x5120 : Shape := ⟨2, ![512, 5120]⟩
abbrev S1x5120 : Shape := ⟨2, ![1, 5120]⟩
abbrev S128x5120 : Shape := ⟨2, ![128, 5120]⟩
abbrev S128x512 : Shape := ⟨2, ![128, 512]⟩
abbrev S128x1 : Shape := ⟨2, ![128, 1]⟩
abbrev S128 : Shape := ⟨1, ![128]⟩
abbrev S1024x1 : Shape := ⟨2, ![1024, 1]⟩

abbrev nBuf : Space → Nat
  | .hbm => 65
  | .vmem => 11
  | .smem => 2
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S_, .i32⟩
  | .hbm, ⟨7, _⟩ => ⟨S_, .i32⟩
  | .hbm, ⟨8, _⟩ => ⟨S102400, .i32⟩
  | .hbm, ⟨9, _⟩ => ⟨S20x1x5120, .i32⟩
  | .hbm, ⟨10, _⟩ => ⟨S20x5120, .i32⟩
  | .hbm, ⟨11, _⟩ => ⟨S20x1, .i32⟩
  | .hbm, ⟨12, _⟩ => ⟨S20, .i32⟩
  | .hbm, ⟨13, _⟩ => ⟨S_, .i32⟩
  | .hbm, ⟨14, _⟩ => ⟨S_, .i32⟩
  | .hbm, ⟨15, _⟩ => ⟨S20, .i32⟩
  | .hbm, ⟨16, _⟩ => ⟨S20, .i32⟩
  | .hbm, ⟨17, _⟩ => ⟨S20, .i32⟩
  | .hbm, ⟨18, _⟩ => ⟨S_, .i32⟩
  | .hbm, ⟨19, _⟩ => ⟨S20, .i32⟩
  | .hbm, ⟨20, _⟩ => ⟨S20, .i1⟩
  | .hbm, ⟨21, _⟩ => ⟨S20, .i32⟩
  | .hbm, ⟨22, _⟩ => ⟨S20, .i32⟩
  | .hbm, ⟨23, _⟩ => ⟨S_, .i32⟩
  | .hbm, ⟨24, _⟩ => ⟨S20, .i32⟩
  | .hbm, ⟨25, _⟩ => ⟨S20, .i1⟩
  | .hbm, ⟨26, _⟩ => ⟨S20, .i1⟩
  | .hbm, ⟨27, _⟩ => ⟨S_, .i32⟩
  | .hbm, ⟨28, _⟩ => ⟨S20, .i32⟩
  | .hbm, ⟨29, _⟩ => ⟨S20, .i32⟩
  | .hbm, ⟨30, _⟩ => ⟨S20x1, .i32⟩
  | .hbm, ⟨31, _⟩ => ⟨S20, .i32⟩
  | .hbm, ⟨32, _⟩ => ⟨S_, .i32⟩
  | .hbm, ⟨33, _⟩ => ⟨S20, .i32⟩
  | .hbm, ⟨34, _⟩ => ⟨S20, .i32⟩
  | .hbm, ⟨35, _⟩ => ⟨S_, .i32⟩
  | .hbm, ⟨36, _⟩ => ⟨S20, .i32⟩
  | .hbm, ⟨37, _⟩ => ⟨S20, .i32⟩
  | .hbm, ⟨38, _⟩ => ⟨S20, .i32⟩
  | .hbm, ⟨39, _⟩ => ⟨S_, .i32⟩
  | .hbm, ⟨40, _⟩ => ⟨S20, .i32⟩
  | .hbm, ⟨41, _⟩ => ⟨S20, .i32⟩
  | .hbm, ⟨42, _⟩ => ⟨S_, .i32⟩
  | .hbm, ⟨43, _⟩ => ⟨S20, .i32⟩
  | .hbm, ⟨44, _⟩ => ⟨S20, .i32⟩
  | .hbm, ⟨45, _⟩ => ⟨S_, .i32⟩
  | .hbm, ⟨46, _⟩ => ⟨S_, .i32⟩
  | .hbm, ⟨47, _⟩ => ⟨S20, .i32⟩
  | .hbm, ⟨48, _⟩ => ⟨S20, .i32⟩
  | .hbm, ⟨49, _⟩ => ⟨S20, .i32⟩
  | .hbm, ⟨50, _⟩ => ⟨S_, .i32⟩
  | .hbm, ⟨51, _⟩ => ⟨S20, .i32⟩
  | .hbm, ⟨52, _⟩ => ⟨S20, .i1⟩
  | .hbm, ⟨53, _⟩ => ⟨S20, .i32⟩
  | .hbm, ⟨54, _⟩ => ⟨S20, .i32⟩
  | .hbm, ⟨55, _⟩ => ⟨S_, .i32⟩
  | .hbm, ⟨56, _⟩ => ⟨S20, .i32⟩
  | .hbm, ⟨57, _⟩ => ⟨S20, .i1⟩
  | .hbm, ⟨58, _⟩ => ⟨S20, .i1⟩
  | .hbm, ⟨59, _⟩ => ⟨S_, .i32⟩
  | .hbm, ⟨60, _⟩ => ⟨S20, .i32⟩
  | .hbm, ⟨61, _⟩ => ⟨S20, .i32⟩
  | .hbm, ⟨62, _⟩ => ⟨S512x1, .f32⟩
  | .hbm, ⟨63, _⟩ => ⟨S1x1, .f32⟩
  | .hbm, ⟨64, _⟩ => ⟨S1024x512, .f32⟩
  | .local _ .vmem, ⟨0, _⟩ => ⟨S5120x512, .f32⟩
  | .local _ .vmem, ⟨1, _⟩ => ⟨S5120x512, .f32⟩
  | .local _ .vmem, ⟨2, _⟩ => ⟨S1x1x5120, .i32⟩
  | .local _ .vmem, ⟨3, _⟩ => ⟨S1x1x5120, .i32⟩
  | .local _ .vmem, ⟨4, _⟩ => ⟨S512x512, .f32⟩
  | .local _ .vmem, ⟨5, _⟩ => ⟨S512x1, .f32⟩
  | .local _ .vmem, ⟨6, _⟩ => ⟨S1x512, .f32⟩
  | .local _ .vmem, ⟨7, _⟩ => ⟨S1x1, .f32⟩
  | .local _ .vmem, ⟨8, _⟩ => ⟨S1024x512, .f32⟩
  | .local _ .vmem, ⟨9, _⟩ => ⟨S1160x512, .f32⟩
  | .local _ .vmem, ⟨10, _⟩ => ⟨S1160x1, .f32⟩
  | .local _ .smem, ⟨0, _⟩ => ⟨S20, .i32⟩
  | .local _ .smem, ⟨1, _⟩ => ⟨S20, .i32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_c_5 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v5 : Ref sig .tc := ⟨.smem, 0, rfl⟩
abbrev main_v17 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![20], ![false]⟩

abbrev pre0 : Pipeline.Prefetch sig := ⟨2, ![main_v5.idx, main_v17.idx], fun | 0 => main_v5.names | 1 => main_v17.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v32 : Index := Scalar.indexCast arg0
  ![v32.toNat]
@[reducible] def k0_t1_loop (v35 : BitVec 32) : Scf.Loop 32 :=
  let c0_i32_17 : BitVec 32 := 0#32
  let v36 : BitVec 32 := Scalar.subi v35 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_18 : BitVec 32 := 1#32
  ⟨c0_i32_17, v40, c1_i32_18⟩

def k0_off2 (v33 : BitVec 32) (v35 : BitVec 32) (k0_t1 : Fin (k0_t1_loop v35).trips) : Fin 2 → Nat :=
  let c8_i32 : BitVec 32 := 8#32
  let v44 : BitVec 32 := Scalar.muli v33 c8_i32
  let c0_i32_17 : BitVec 32 := 0#32
  let c1_i32_18 : BitVec 32 := 1#32
  let arg12 : BitVec 32 := Scf.iv c0_i32_17 c1_i32_18 k0_t1
  let c128_i32 : BitVec 32 := 128#32
  let v45 : BitVec 32 := Scalar.muli arg12 c128_i32
  let v46 : BitVec 32 := Scalar.addi v44 v45
  let v56 : Index := Scalar.indexCast v46
  let c0_22 : Index := 0#32
  ![v56.toNat, 0]
def k0_off3 (v33 : BitVec 32) (v35 : BitVec 32) (k0_t1 : Fin (k0_t1_loop v35).trips) : Fin 2 → Nat :=
  let c8_i32 : BitVec 32 := 8#32
  let v44 : BitVec 32 := Scalar.muli v33 c8_i32
  let c0_i32_17 : BitVec 32 := 0#32
  let c1_i32_18 : BitVec 32 := 1#32
  let arg12 : BitVec 32 := Scf.iv c0_i32_17 c1_i32_18 k0_t1
  let c128_i32 : BitVec 32 := 128#32
  let v45 : BitVec 32 := Scalar.muli arg12 c128_i32
  let v46 : BitVec 32 := Scalar.addi v44 v45
  let v64 : Index := Scalar.indexCast v46
  let c0_25 : Index := 0#32
  ![v64.toNat, 0]
@[reducible] def k0_t2_loop (v35 : BitVec 32) : Scf.Loop 32 :=
  let c0_i32_17 : BitVec 32 := 0#32
  let v36 : BitVec 32 := Scalar.subi v35 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let v37 : BitVec 32 := Scalar.addi c0_i32_17 v36
  let c1_i32_19 : BitVec 32 := 1#32
  ⟨v40, v37, c1_i32_19⟩
def k0_off4 (v33 : BitVec 32) (v35 : BitVec 32) (k0_t2 : Fin (k0_t2_loop v35).trips) : Fin 2 → Nat :=
  let c8_i32 : BitVec 32 := 8#32
  let v44 : BitVec 32 := Scalar.muli v33 c8_i32
  let c0_i32_17 : BitVec 32 := 0#32
  let v36 : BitVec 32 := Scalar.subi v35 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_19 : BitVec 32 := 1#32
  let arg12 : BitVec 32 := Scf.iv v40 c1_i32_19 k0_t2
  let c128_i32 : BitVec 32 := 128#32
  let v45 : BitVec 32 := Scalar.muli arg12 c128_i32
  let v46 : BitVec 32 := Scalar.addi v44 v45
  let v56 : Index := Scalar.indexCast v46
  let c0_22 : Index := 0#32
  ![v56.toNat, 0]
def k0_off5 (v33 : BitVec 32) (v35 : BitVec 32) (k0_t2 : Fin (k0_t2_loop v35).trips) : Fin 2 → Nat :=
  let c8_i32 : BitVec 32 := 8#32
  let v44 : BitVec 32 := Scalar.muli v33 c8_i32
  let c0_i32_17 : BitVec 32 := 0#32
  let v36 : BitVec 32 := Scalar.subi v35 c0_i32_17
  let c1_i32 : BitVec 32 := 1#32
  let v38 : BitVec 32 := Scalar.divsi v36 c1_i32
  let v39 : BitVec 32 := Scalar.muli v38 c1_i32
  let v40 : BitVec 32 := Scalar.addi c0_i32_17 v39
  let c1_i32_19 : BitVec 32 := 1#32
  let arg12 : BitVec 32 := Scf.iv v40 c1_i32_19 k0_t2
  let c128_i32 : BitVec 32 := 128#32
  let v45 : BitVec 32 := Scalar.muli arg12 c128_i32
  let v46 : BitVec 32 := Scalar.addi v44 v45
  let v64 : Index := Scalar.indexCast v46
  let c0_25 : Index := 0#32
  ![v64.toNat, 0]

def k0_chk1 (v33 : BitVec 32) (v35 : BitVec 32) : Prop :=
  ((k0_t1_loop v35).OK) ∧
  (∀ k0_t1 : Fin (k0_t1_loop v35).trips, ∀ a, (k0_off2 v33 v35 k0_t1) a + S128x512.size a ≤ S1160x512.size a) ∧
  (∀ k0_t1 : Fin (k0_t1_loop v35).trips, ∀ a, (k0_off3 v33 v35 k0_t1) a + S128x1.size a ≤ S1160x1.size a) ∧
  ((k0_t2_loop v35).OK) ∧
  (∀ k0_t2 : Fin (k0_t2_loop v35).trips, ∀ a, (k0_off4 v33 v35 k0_t2) a + S128x512.size a ≤ S1160x512.size a) ∧
  (∀ k0_t2 : Fin (k0_t2_loop v35).trips, ∀ a, (k0_off5 v33 v35 k0_t2) a + S128x1.size a ≤ S1160x1.size a)
theorem k0_t1_ok : ∀ (v33 : BitVec 32) (v35 : BitVec 32) (k0_hw1 : k0_chk1 v33 v35), (k0_t1_loop v35).OK := fun v33 v35 k0_hw1 => k0_hw1.1
theorem k0_off2_inb : ∀ (v33 : BitVec 32) (v35 : BitVec 32) (k0_hw1 : k0_chk1 v33 v35) (k0_t1 : Fin (k0_t1_loop v35).trips), ∀ a, (k0_off2 v33 v35 k0_t1) a + S128x512.size a ≤ S1160x512.size a := fun v33 v35 k0_hw1 k0_t1 => k0_hw1.2.1 k0_t1
theorem k0_off3_inb : ∀ (v33 : BitVec 32) (v35 : BitVec 32) (k0_hw1 : k0_chk1 v33 v35) (k0_t1 : Fin (k0_t1_loop v35).trips), ∀ a, (k0_off3 v33 v35 k0_t1) a + S128x1.size a ≤ S1160x1.size a := fun v33 v35 k0_hw1 k0_t1 => k0_hw1.2.2.1 k0_t1
theorem k0_t2_ok : ∀ (v33 : BitVec 32) (v35 : BitVec 32) (k0_hw1 : k0_chk1 v33 v35), (k0_t2_loop v35).OK := fun v33 v35 k0_hw1 => k0_hw1.2.2.2.1
theorem k0_off4_inb : ∀ (v33 : BitVec 32) (v35 : BitVec 32) (k0_hw1 : k0_chk1 v33 v35) (k0_t2 : Fin (k0_t2_loop v35).trips), ∀ a, (k0_off4 v33 v35 k0_t2) a + S128x512.size a ≤ S1160x512.size a := fun v33 v35 k0_hw1 k0_t2 => k0_hw1.2.2.2.2.1 k0_t2
theorem k0_off5_inb : ∀ (v33 : BitVec 32) (v35 : BitVec 32) (k0_hw1 : k0_chk1 v33 v35) (k0_t2 : Fin (k0_t2_loop v35).trips), ∀ a, (k0_off5 v33 v35 k0_t2) a + S128x1.size a ≤ S1160x1.size a := fun v33 v35 k0_hw1 k0_t2 => k0_hw1.2.2.2.2.2 k0_t2

def k0_cond2 (i : grid0.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_20 : BitVec 32 := 0#32
  let v43 : BitVec 1 := Scalar.cmpi .ne v42 c0_i32_20
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5120x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x5120 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S1 : Shape := ⟨1, ![1]⟩
abbrev S512x1 : Shape := ⟨2, ![512, 1]⟩
abbrev S100000x1 : Shape := ⟨2, ![100000, 1]⟩
abbrev S1x1 : Shape := ⟨2, ![1, 1]⟩
abbrev S_ : Shape := ⟨0, ![]⟩
abbrev S1024x1 : Shape := ⟨2, ![1024, 1]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S1, .f32⟩
  | .hbm, ⟨6, _⟩ => ⟨S512x512, .f32⟩
  | .hbm, ⟨7, _⟩ => ⟨S100000x512, .f32⟩
  | .hbm, ⟨8, _⟩ => ⟨S1x512, .f32⟩
  | .hbm, ⟨9, _⟩ => ⟨S100000x512, .f32⟩
  | .hbm, ⟨10, _⟩ => ⟨S100000x512, .f32⟩
  | .hbm, ⟨11, _⟩ => ⟨S100000x512, .f32⟩
  | .hbm, ⟨12, _⟩ => ⟨S512x1, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S1024x1, .f32⟩
  | .hbm, ⟨20, _⟩ => ⟨S100000x1, .i32⟩
  | .hbm, ⟨21, _⟩ => ⟨S1024x1, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S_, .f32⟩
  | .hbm, ⟨38, _⟩ => ⟨S1024x512, .f32⟩
  | .hbm, ⟨39, _⟩ => ⟨S100000x1, .i32⟩
  | .hbm, ⟨40, _⟩ => ⟨S1024x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Kernel.SameProgram.lean ====
/-
  ONE PROGRAM, PRINTED TWICE. The idealization rewrote no operation, so `Cert.Kernel` and `Cert.KernelIdeal` are the same
  program at every float type: their bodies, their function tables and their @main are equal, and the frame proved of the
  one at any float type is the frame of the other.
-/
module

public import proofs.«01_k».proof.Proof.Gen.Kernel
public import proofs.«01_k».proof.Proof.Gen.KernelIdeal

@[expose] public section

set_option maxRecDepth 65536
set_option maxHeartbeats 8000000

namespace Cert.Kernel.Same

open Idealize.ShloMosaic

variable {F : FTy → Type} [FloatOps F]

theorem body_eq : (Cert.Kernel.cc0__attn_pool_kernel (F := F)) = Cert.KernelIdeal.cc0__attn_pool_kernel := by rfl

theorem defs0_eq : (Cert.Kernel.defs₀ (F := F)) = Cert.KernelIdeal.defs₀ := by
  unfold Cert.Kernel.defs₀ Cert.KernelIdeal.defs₀
  refine congrArg Defs.onTc ?_
  funext l p
  match l, p with
  | ⟨0, _⟩, (t, s) => rfl
  | ⟨n + 1, h⟩, _ => exact absurd h (Nat.not_lt.2 (Nat.le_add_left _ _))

theorem defs_eq : (Cert.Kernel.defs (F := F)) = Cert.KernelIdeal.defs := by
  unfold Cert.Kernel.defs Cert.KernelIdeal.defs
  rw [defs0_eq]; rfl

theorem main_eq : (Cert.Kernel.main (F := F)) = Cert.KernelIdeal.main := by
  unfold Cert.Kernel.main Cert.KernelIdeal.main
  rfl

end Cert.Kernel.Same
-- ==== Proof.KernelIdeal.Entry.lean ====
/-
  THE LAUNCH, up to the region: the schedule of the seven windows on the grid of 20 points, the arrays' contents when the
  region is entered (`V`: after @main's host operations; every argument as launched), the two prefetched tables, each
  window's block at a point (`iblk`), the branch conditions of the body, the staging memrefs, and the frame post read off
  a run of the pipeline. Window 0 (rows of `h`) overhangs its array in the last block: 20 · 5120 > 100000.
-/
module

public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%arg2)) is fetched at the first point only, at any contents of the tables (its index map reads none). -/
theorem fetch0_2 (a : (pcfg0 (F := F)).Adm) : ∀ t : Fin (cfg0 a).N, ((cfg0 a).win 2).fetch t = true ↔ t.val % 20 = 0 :=
  (fun t => Pipeline.Window.fetchOf_const cc0_transform_2 (fun _ _ => rfl) (n := 20) (by decide) t : ∀ t : Fin grid0.N, Pipeline.Window.fetchOf grid0 false cc0_transform_2 t = true ↔ t.val % 20 = 0)
/-- Window 3 (operand 5 (%18)) is fetched at the first point only, at any contents of the tables (its index map reads none). -/
theorem fetch0_3 (a : (pcfg0 (F := F)).Adm) : ∀ t : Fin (cfg0 a).N, ((cfg0 a).win 3).fetch t = true ↔ t.val % 20 = 0 :=
  (fun t => Pipeline.Window.fetchOf_const cc0_transform_3 (fun _ _ => rfl) (n := 20) (by decide) t : ∀ t : Fin grid0.N, Pipeline.Window.fetchOf grid0 false cc0_transform_3 t = true ↔ t.val % 20 = 0)
/-- Window 4 (operand 6 (%arg4)) is fetched at the first point only, at any contents of the tables (its index map reads none). -/
theorem fetch0_4 (a : (pcfg0 (F := F)).Adm) : ∀ t : Fin (cfg0 a).N, ((cfg0 a).win 4).fetch t = true ↔ t.val % 20 = 0 :=
  (fun t => Pipeline.Window.fetchOf_const cc0_transform_4 (fun _ _ => rfl) (n := 20) (by decide) t : ∀ t : Fin grid0.N, Pipeline.Window.fetchOf grid0 false cc0_transform_4 t = true ↔ t.val % 20 = 0)
/-- Window 5 (operand 7 (%19)) is fetched at the first point only, at any contents of the tables (its index map reads none). -/
theorem fetch0_5 (a : (pcfg0 (F := F)).Adm) : ∀ t : Fin (cfg0 a).N, ((cfg0 a).win 5).fetch t = true ↔ t.val % 20 = 0 :=
  (fun t => Pipeline.Window.fetchOf_const cc0_transform_5 (fun _ _ => rfl) (n := 20) (by decide) t : ∀ t : Fin grid0.N, Pipeline.Window.fetchOf grid0 false cc0_transform_5 t = true ↔ t.val % 20 = 0)
/-- Window 6 (result 0 (%20)) is written back at the last point only, at any contents of the tables (its index map reads none). -/
theorem flush0_6 (a : (pcfg0 (F := F)).Adm) : ∀ t : Fin (cfg0 a).N, ((cfg0 a).win 6).flush t = true ↔ t.val % 20 = 19 :=
  (fun t => Pipeline.Window.flushOf_const cc0_transform_6 (fun _ _ => rfl) (n := 20) (by decide) rfl t : ∀ t : Fin grid0.N, Pipeline.Window.flushOf grid0 true cc0_transform_6 t = true ↔ t.val % 20 = 19)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__attn_pool_kernel (grid0.coords t) (Memref.whole main_v5) (Memref.isWhole_whole _) (Memref.whole main_v17) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- A buffer no host operation before the region writes is found by the region as launched. -/
theorem V_kept (c : Dev nD) (b : Ref sig .tc) (hb : b ∈ [main_arg0, main_arg1, main_arg2, main_arg3, main_arg4, main_arg5]) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.mem_nil_iff, or_false] at hb
    rcases hb with rfl | rfl | rfl | rfl | rfl | rfl
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S20 .i32 := Memref.whole main_v5
abbrev htbM0_0 : tbM0_0.IsWhole := Memref.isWhole_whole _
abbrev tbM0_1 : Memref sig .tc .smem S20 .i32 := Memref.whole main_v17
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_kept m c main_arg0 (by decide)))),
      ((h c).2 main_arg1 (by decide : main_arg1 ∈ Pipeline.restRefs sig spec0)).trans (V_kept m c main_arg1 (by decide)),
      ((h c).1 2).trans (((dats 0 c).arrAt_in 2 rfl _).trans ((hA c 2).trans (V_kept m c main_arg2 (by decide)))),
      ((h c).2 main_arg3 (by decide : main_arg3 ∈ Pipeline.restRefs sig spec0)).trans (V_kept m c main_arg3 (by decide)),
      ((h c).1 4).trans (((dats 0 c).arrAt_in 4 rfl _).trans ((hA c 4).trans (V_kept m c main_arg4 (by decide)))),
      ((h c).2 main_arg5 (by decide : main_arg5 ∈ Pipeline.restRefs sig spec0)).trans (V_kept m c main_arg5 (by decide))⟩) h

/-! ## The body's branch conditions, and where its one output is idle -/

/-- The first branch (zero the scratch), -/
abbrev cond0_0 (i : grid0.Coords) : Prop := (Scalar.cmpi .ne (Scalar.extui (Scalar.cmpi .eq (BitVec.ofNat 32 (i 0).val) 0#32)) 0#32) = 1#1
/-- taken at the first point only. -/
theorem hcond0_0 (t : Fin grid0.N) : cond0_0 (grid0.coords t) ↔ t.val % 20 = 0 := by
  have ht : t.val < 20 := Nat.lt_of_lt_of_eq t.isLt N_0
  have e0 : (grid0.coords t 0).val = t.val / 1 % 20 := Pipeline.Grid.coords_val t 0 (by decide) rfl
  simp only [cond0_0, e0]
  word_cmp

/-- The last branch (divide and write the result), -/
abbrev cond0_1 (i : grid0.Coords) : Prop := k0_cond2 i = 1#1
/-- taken at the last point only. -/
theorem hcond0_1 (t : Fin grid0.N) : cond0_1 (grid0.coords t) ↔ t.val % 20 = 19 := by
  have ht : t.val < 20 := Nat.lt_of_lt_of_eq t.isLt N_0
  have e0 : (grid0.coords t 0).val = t.val / 1 % 20 := Pipeline.Grid.coords_val t 0 (by decide) rfl
  simp only [cond0_1, k0_cond2, e0]
  word_cmp

/-- Before the last point the output is idle -/
theorem idle0_6 (hO : Ok m) (t : Fin (cfgM m hO).N) (h : ¬cond0_1 (grid0.coords t)) : (cfgM m hO).idle 6 (grid0.coords t) = true :=
  (by decide +kernel : ∀ t : Fin grid0.N, ¬cond0_1 (grid0.coords t) → idle0 6 (grid0.coords t) = true) t h
/-- and not written back; -/
theorem noFlush0_6 (hO : Ok m) (t : Fin (cfgM m hO).N) (h : ¬cond0_1 (grid0.coords t)) : ((cfgM m hO).win 6).flush t = false :=
  (by decide +kernel : ∀ t : Fin grid0.N, ¬cond0_1 (grid0.coords t) → Pipeline.Window.flushOf grid0 true cc0_transform_6 t = false) t h
/-- at the last point it is live. -/
theorem live0_6 (hO : Ok m) (t : Fin (cfgM m hO).N) (h : cond0_1 (grid0.coords t)) : (cfgM m hO).idle 6 (grid0.coords t) = false :=
  (by decide +kernel : ∀ t : Fin grid0.N, cond0_1 (grid0.coords t) → idle0 6 (grid0.coords t) = false) t h

/-! ## The memrefs the body is called with -/

/-- Each window's current staging memref at point `t`, and its wholeness. -/
abbrev ms0_0 (hO : Ok m) (t : Fin (cfgM m hO).N) : Memref sig .tc .vmem S5120x512 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x5120 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x512 .f32 := spec0_6.stage ((cfgM m hO).slots t 6)
abbrev hs0_6 (hO : Ok m) (t : Fin (cfgM m hO).N) : (ms0_6 m hO t).IsWhole := hstage0_6 (((cfgM m hO).slots t 6).cast nbuf0_6)

/-- The two scratch memrefs, whole. -/
abbrev scM0_0 : Memref sig .tc .vmem S1160x512 .f32 := Memref.whole cc0_scratch0
abbrev scM0_1 : Memref sig .tc .vmem S1160x1 .f32 := Memref.whole cc0_scratch1

/-- What the launch hands the region beside the windows: both scratch memrefs at some contents, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The word of a table at a grid point, as the body reads it: the first block of the table at the point. -/
abbrev word (M : Memref sig .tc .smem S20 .i32) (c : Dev nD) (i : grid0.Coords) (f : TbBuf0 (F := F) c M) : Elt F .i32 :=
  M.view.readAt (Elt F) (Rect.unit (s := S20) (k0_off1 i) S1.size (k0_off1_inb i)).toLoadRect f (Shape.Idx.first (numel1_S1.symm ▸ Nat.one_pos))

/-- The side condition the body assumes of the two table words, at every point. -/
def Hyps (hO : Ok m) : Prop :=
  ∀ (c : Dev nD) (t : Fin (cfgM m hO).N), k0_chk1 (word tbM0_0 c (grid0.coords t) (tbl m 0)) (word tbM0_1 c (grid0.coords t) (tbl m 1))

end Cert.KernelIdeal.Attn

end
-- ==== Proof.KernelIdeal.Fold.lean ====
/-
  THE SEGMENT FOLD, as plain functions of vectors. One grid point of the kernel adds, window by window, the block's
  masked products to a numerator scratch (1160 rows of 512) and the block's masked weights to a denominator scratch
  (1160 rows). `trip` is one window, `sweep` the windows of a block in order; the lemmas say that the stores of the
  counted loop, read back through any whole scratch memref, are that fold, and that the loop behind it makes no trip.
-/
module

public import proofs.«01_k».proof.Proof.Gen.KernelIdeal.Loops
public import Idealize.ShloMosaic.Lib.VecWindow
public import Idealize.ShloMosaic.Lib.LoopRemainder

@[expose] public section

set_option maxRecDepth 16384

noncomputable section

namespace Cert.KernelIdeal.Attn

open Idealize.ShloMosaic Idealize.ShloMosaic.TcCoe Cert.KernelIdeal.Gen

variable {F : FTy → Type} [FloatOps F]

/-- The two scratch arrays between points: numerator rows, denominator rows. -/
abbrev Acc (F : FTy → Type) [FloatOps F] : Type := Vec F S1160x512 .f32 × Vec F S1160x1 .f32

variable (hv : Vec F S5120x512 .f32) (ex : FVec F S1x5120 .f32) (ids : IVec S1x5120 32) (lo nw : Elt F .i32) (hw : k0_chk1 lo nw)

/-- Window `k` of a block: both scratch arrays with the window's 128 rows updated. -/
def trip (k : Fin (k0_t1_loop nw).trips) (s : Acc F) : Acc F :=
  (VecWindow.put s.1 (k0_off2 lo nw k) S128x512.size
      (k0_pay2 hv ex ids lo nw k (VecWindow.window s.1 (k0_off2 lo nw k) S128x512.size (k0_off2_inb lo nw hw k))),
   VecWindow.put s.2 (k0_off3 lo nw k) S128x1.size
      (k0_pay3 ex ids lo nw k (VecWindow.window s.2 (k0_off3 lo nw k) S128x1.size (k0_off3_inb lo nw hw k))))

/-- The first `k` windows of a block. -/
def sweep (s : Acc F) : ℕ → Acc F
  | 0 => s
  | k + 1 => if h : k < (k0_t1_loop nw).trips then trip hv ex ids lo nw hw ⟨k, h⟩ (sweep s k) else sweep s k

theorem sweep_succ (s : Acc F) (k : Fin (k0_t1_loop nw).trips) :
    sweep hv ex ids lo nw hw s (k.val + 1) = trip hv ex ids lo nw hw k (sweep hv ex ids lo nw hw s k.val) :=
  dif_pos k.isLt

/-- All the windows of a block. -/
def block (s : Acc F) : Acc F := sweep hv ex ids lo nw hw s (k0_t1_loop nw).trips

section ReadBack

variable (𝒱 : Variants) (c : Dev nD) (bd : Option 𝒱.V) (i : grid0.Coords)
  (arg1 : Memref sig .tc .smem S20 .i32) (harg1 : arg1.IsWhole) (arg2 : Memref sig .tc .smem S20 .i32) (harg2 : arg2.IsWhole) (arg3 : Memref sig .tc .vmem S5120x512 .f32) (harg3 : arg3.IsWhole) (arg4 : Memref sig .tc .vmem S1x1x5120 .i32) (harg4 : arg4.IsWhole) (arg5 : Memref sig .tc .vmem S512x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1024x512 .f32) (harg9 : arg9.IsWhole) (arg10 : Memref sig .tc .vmem S1160x512 .f32) (harg10 : arg10.IsWhole) (arg11 : Memref sig .tc .vmem S1160x1 .f32) (harg11 : arg11.IsWhole)

/-- What one trip stores: the updated window of each scratch, from the window it loaded. -/
theorem trip_pieces (k : Fin (k0_t1_loop nw).trips) (f : BufTy.Contents (Elt F) arg10.view.ty) (g : BufTy.Contents (Elt F) arg11.view.ty) :
    tripL_k0_t1 (F := F) 𝒱 c bd i arg1 harg1 arg2 harg2 arg3 harg3 arg4 harg4 arg5 harg5 arg6 harg6 arg7 harg7 arg8 harg8 arg9 harg9 arg10 harg10 arg11 harg11 hv ex ids lo nw hw k f g
      = ([⟨Rect.unit (s := S1160x512) (k0_off2 lo nw k) S128x512.size (k0_off2_inb lo nw hw k),
            k0_pay2 hv ex ids lo nw k (arg10.view.readAt (Elt F) (Rect.unit (s := S1160x512) (k0_off2 lo nw k) S128x512.size (k0_off2_inb lo nw hw k)).toLoadRect f)⟩],
         [⟨Rect.unit (s := S1160x1) (k0_off3 lo nw k) S128x1.size (k0_off3_inb lo nw hw k),
            k0_pay3 ex ids lo nw k (arg11.view.readAt (Elt F) (Rect.unit (s := S1160x1) (k0_off3 lo nw k) S128x1.size (k0_off3_inb lo nw hw k)).toLoadRect g)⟩]) := by
  unfold tripL_k0_t1 trip_k0_t1
  rfl

/-- The loop's stores so far, read back through the scratch memrefs, are the fold so far. -/
theorem read_pieces (f : BufTy.Contents (Elt F) arg10.view.ty) (g : BufTy.Contents (Elt F) arg11.view.ty) (k : ℕ) (hk : k ≤ (k0_t1_loop nw).trips) :
    (arg10.view.read (Elt F) (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 hv ex ids lo nw hw f g k).1),
     arg11.view.read (Elt F) (arg11.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 hv ex ids lo nw hw f g k).2))
      = sweep hv ex ids lo nw hw (arg10.view.read (Elt F) f, arg11.view.read (Elt F) g) k := by
  induction k with
  | zero => rfl
  | succ k ih =>
    have ih := ih (Nat.le_of_succ_le hk)
    rw [sweep_succ hv ex ids lo nw hw _ ⟨k, hk⟩, ← ih]
    rw [pb_k0_t1_succ (F := F) 𝒱 c bd i arg1 harg1 arg2 harg2 arg3 harg3 arg4 harg4 arg5 harg5 arg6 harg6 arg7 harg7 arg8 harg8 arg9 harg9 arg10 harg10 arg11 harg11 hv ex ids lo nw hw f g ⟨k, hk⟩]
    rw [trip_pieces]
    exact Prod.ext (View.read_writes_cons_put arg10.view f _ _ _ rfl) (View.read_writes_cons_put arg11.view g _ _ _ rfl)

end ReadBack

/-- The loop printed behind the windows' loop makes no trip: its bounds are equal. -/
theorem rest_trips : (k0_t2_loop nw).trips = 0 := Scf.rem_trips 0#32 (Scalar.subi nw 0#32)

end Cert.KernelIdeal.Attn

end
-- ==== Proof.KernelIdeal.Body.lean ====
/-
  THE BODY AT ONE GRID POINT, in its three cases (first point, a middle point, last point): on whole memrefs holding the
  point's blocks, the tables and the two scratch arrays, the body runs to its end and leaves the scratch at the fold of
  the block (`point`), started at zero in the first case, and in the last case the result at the quotient (`quot`).
-/
module

public import proofs.«01_k».proof.Proof.KernelIdeal.Entry
public import proofs.«01_k».proof.Proof.KernelIdeal.Fold

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- A grid point's effect on the scratch: the fold over its windows of the point's masked rows, weights and ids. -/
def point (i : grid0.Coords) (x0 : Vec F S5120x512 .f32) (x1 : Vec F S1x1x5120 .i32) (x2 : Vec F S512x512 .f32) (x3 : Vec F S512x1 .f32) (x4 : Vec F S1x512 .f32)
    (x5 : Vec F S1x1 .f32) (lo nw : Elt F .i32) (hw : k0_chk1 lo nw) (s : Acc F) : Acc F :=
  block (k0_pay10 i x0) (k0_pay11 i x0 x2 x3 x4 x5) (k0_pay12 x1) lo nw hw s

/-- The scratch as the first point zeroes it. -/
def zeroAcc : Acc F := (k0_pay8, k0_pay9)

/-- The result, from the scratch: rows 0 to 1023 of the numerator over those of the denominator. -/
def quot (s : Acc F) : Vec F S1024x512 .f32 :=
  k0_pay7 (VecWindow.window s.1 ![0, 0] S1024x512.size inb_S1160x512_S1024x512_0_0) (VecWindow.window s.2 ![0, 0] S1024x1.size inb_S1160x1_S1024x1_0_0)

section

variable (c : Dev nD) (i : grid0.Coords) (arg3 : Memref sig .tc .vmem S5120x512 .f32) (harg3 : arg3.IsWhole) (arg4 : Memref sig .tc .vmem S1x1x5120 .i32) (harg4 : arg4.IsWhole) (arg5 : Memref sig .tc .vmem S512x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S1024x512 .f32) (harg9 : arg9.IsWhole) (arg10 : Memref sig .tc .vmem S1160x512 .f32) (harg10 : arg10.IsWhole) (arg11 : Memref sig .tc .vmem S1160x1 .f32) (harg11 : arg11.IsWhole)
  (x0 : Vec F S5120x512 .f32) (x1 : Vec F S1x1x5120 .i32) (x2 : Vec F S512x512 .f32) (x3 : Vec F S512x1 .f32) (x4 : Vec F S1x512 .f32) (x5 : Vec F S1x1 .f32) (xt0 : TbBuf0 (F := F) c tbM0_0) (xt1 : TbBuf0 (F := F) c tbM0_1)
  (hw : k0_chk1 (word tbM0_0 c i xt0) (word tbM0_1 c i xt1))

/-- The buffers the body only reads: the six input blocks and the two tables. -/
abbrev Inputs : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ tbPt0 c tbM0_0 xt0 ∗ tbPt0 c tbM0_1 xt1)

/-- What the windows' loop leaves in the scratch, read back: the point's effect on what the scratch held before it. -/
theorem read_point (lo nw : Elt F .i32) (hw' : k0_chk1 lo nw)
    {f0 : BufTy.Contents (Elt F) arg3.view.ty} (hf0 : arg3.view.read (Elt F) f0 = x0) {f1 : BufTy.Contents (Elt F) arg4.view.ty} (hf1 : arg4.view.read (Elt F) f1 = x1)
    {f2 : BufTy.Contents (Elt F) arg5.view.ty} (hf2 : arg5.view.read (Elt F) f2 = x2) {f3 : BufTy.Contents (Elt F) arg6.view.ty} (hf3 : arg6.view.read (Elt F) f3 = x3)
    {f4 : BufTy.Contents (Elt F) arg7.view.ty} (hf4 : arg7.view.read (Elt F) f4 = x4) {f5 : BufTy.Contents (Elt F) arg8.view.ty} (hf5 : arg8.view.read (Elt F) f5 = x5)
    {g0 : BufTy.Contents (Elt F) arg10.view.ty} {g1 : BufTy.Contents (Elt F) arg11.view.ty} {s : Acc F} (hg0 : arg10.view.read (Elt F) g0 = s.1) (hg1 : arg11.view.read (Elt F) g1 = s.2) :
    (arg10.view.read (Elt F) (arg10.view.writes (Elt F) g0
        (pb_k0_t1 (F := F) Variants.none c none i tbM0_0 htbM0_0 tbM0_1 htbM0_1 arg3 harg3 arg4 harg4 arg5 harg5 arg6 harg6 arg7 harg7 arg8 harg8 arg9 harg9 arg10 harg10 arg11 harg11 (k0_pay10 i (arg3.view.readAt (Elt F) (Rect.unit (s := S5120x512) ![0, 0] S5120x512.size inb_S5120x512_S5120x512_0_0).toLoadRect f0)) (k0_pay11 i (arg3.view.readAt (Elt F) (Rect.unit (s := S5120x512) ![0, 0] S5120x512.size inb_S5120x512_S5120x512_0_0).toLoadRect f0) (arg5.view.readAt (Elt F) (Rect.unit (s := S512x512) ![0, 0] S512x512.size inb_S512x512_S512x512_0_0).toLoadRect f2) (arg6.view.readAt (Elt F) (Rect.unit (s := S512x1) ![0, 0] S512x1.size inb_S512x1_S512x1_0_0).toLoadRect f3) (arg7.view.readAt (Elt F) (Rect.unit (s := S1x512) ![0, 0] S1x512.size inb_S1x512_S1x512_0_0).toLoadRect f4) (arg8.view.readAt (Elt F) (Rect.unit (s := S1x1) ![0, 0] S1x1.size inb_S1x1_S1x1_0_0).toLoadRect f5)) (k0_pay12 (arg4.view.readAt (Elt F) (Rect.unit (s := S1x1x5120) ![0, 0, 0] S1x1x5120.size inb_S1x1x5120_S1x1x5120_0_0_0).toLoadRect f1)) lo nw hw' g0 g1 (k0_t1_loop nw).trips).1),
     arg11.view.read (Elt F) (arg11.view.writes (Elt F) g1
        (pb_k0_t1 (F := F) Variants.none c none i tbM0_0 htbM0_0 tbM0_1 htbM0_1 arg3 harg3 arg4 harg4 arg5 harg5 arg6 harg6 arg7 harg7 arg8 harg8 arg9 harg9 arg10 harg10 arg11 harg11 (k0_pay10 i (arg3.view.readAt (Elt F) (Rect.unit (s := S5120x512) ![0, 0] S5120x512.size inb_S5120x512_S5120x512_0_0).toLoadRect f0)) (k0_pay11 i (arg3.view.readAt (Elt F) (Rect.unit (s := S5120x512) ![0, 0] S5120x512.size inb_S5120x512_S5120x512_0_0).toLoadRect f0) (arg5.view.readAt (Elt F) (Rect.unit (s := S512x512) ![0, 0] S512x512.size inb_S512x512_S512x512_0_0).toLoadRect f2) (arg6.view.readAt (Elt F) (Rect.unit (s := S512x1) ![0, 0] S512x1.size inb_S512x1_S512x1_0_0).toLoadRect f3) (arg7.view.readAt (Elt F) (Rect.unit (s := S1x512) ![0, 0] S1x512.size inb_S1x512_S1x512_0_0).toLoadRect f4) (arg8.view.readAt (Elt F) (Rect.unit (s := S1x1) ![0, 0] S1x1.size inb_S1x1_S1x1_0_0).toLoadRect f5)) (k0_pay12 (arg4.view.readAt (Elt F) (Rect.unit (s := S1x1x5120) ![0, 0, 0] S1x1x5120.size inb_S1x1x5120_S1x1x5120_0_0_0).toLoadRect f1)) lo nw hw' g0 g1 (k0_t1_loop nw).trips).2))
      = point i x0 x1 x2 x3 x4 x5 lo nw hw' s := by
  refine (read_pieces _ _ _ _ _ _ _ _ _ _ _ _ _ _ _ _ _ _ _ _ _ _ _ _ _ _ _ _ _ _ _ _ _ _ _ le_rfl).trans ?_
  rw [hg0, hg1]
  subst hf0 hf1 hf2 hf3 hf4 hf5
  rw [View.readAt_full, View.readAt_full, View.readAt_full, View.readAt_full, View.readAt_full, View.readAt_full]
  rfl

set_option maxHeartbeats 1000000 in
/-- A MIDDLE POINT: the scratch goes from `s` to `point … s`; the output's buffer is untouched. -/
theorem run_middle (hc0 : ¬cond0_0 i) (hc1 : ¬cond0_1 i) (s : Acc F) (E : Set ℕ) (K : PUnit → sProp 𝕄) :
    iprop(Inputs c arg3 arg4 arg5 arg6 arg7 arg8 x0 x1 x2 x3 x4 x5 xt0 xt1 ∗ owns (c : Thread nD τ) arg10 fullShare s.1 ∗ owns (c : Thread nD τ) arg11 fullShare s.2
        ∗ (iprop(Inputs c arg3 arg4 arg5 arg6 arg7 arg8 x0 x1 x2 x3 x4 x5 xt0 xt1
            ∗ owns (c : Thread nD τ) arg10 fullShare (point i x0 x1 x2 x3 x4 x5 _ _ hw s).1 ∗ owns (c : Thread nD τ) arg11 fullShare (point i x0 x1 x2 x3 x4 x5 _ _ hw s).2) -∗ K ⟨⟩))
      ⊢ wp frame (wpE (defs₀ (F := F)) Variants.none c none) E (cc0__attn_pool_kernel i tbM0_0 htbM0_0 tbM0_1 htbM0_1 arg3 harg3 arg4 harg4 arg5 harg5 arg6 harg6 arg7 harg7 arg8 harg8 arg9 harg9 arg10 harg10 arg11 harg11) K := by
  simp only [cc0__attn_pool_kernel_eq_skeleton]; unfold cc0__attn_pool_kernel_skel
  simp only [k0_part1_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT0, HT1⟩, ⟨%fs0, %hfs0, HS0⟩, ⟨%fs1, %hfs1, HS1⟩, Hk⟩
  sl_exec (disch := first | sl_exact hc0 | sl_exact hc1 | sl_exact hw)
  sl_step
  iapply Hk
  have hread := read_point c i arg3 harg3 arg4 harg4 arg5 harg5 arg6 harg6 arg7 harg7 arg8 harg8 arg9 harg9 arg10 harg10 arg11 harg11 x0 x1 x2 x3 x4 x5 (word tbM0_0 c i xt0) (word tbM0_1 c i xt1) hw hf0 hf1 hf2 hf3 hf4 hf5 hfs0 hfs1
  isplitl [H0 H1 H2 H3 H4 H5 HT0 HT1]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HT0]; · iexact HT0
    iexact HT1
  isplitl [HS0]
  · iexists _; isplitr
    swap; · iexact HS0
    ipureintro
    exact congrArg Prod.fst hread
  iexists _; isplitr
  swap; · iexact HS1
  ipureintro
  exact congrArg Prod.snd hread

set_option maxHeartbeats 1000000 in
/-- THE FIRST POINT: whatever the scratch held, it goes to `point … zeroAcc`. -/
theorem run_first (hc0 : cond0_0 i) (hc1 : ¬cond0_1 i) (E : Set ℕ) (K : PUnit → sProp 𝕄) :
    iprop(Inputs c arg3 arg4 arg5 arg6 arg7 arg8 x0 x1 x2 x3 x4 x5 xt0 xt1 ∗ (∃ d, owns (c : Thread nD τ) arg10 fullShare d) ∗ (∃ d, owns (c : Thread nD τ) arg11 fullShare d)
        ∗ (iprop(Inputs c arg3 arg4 arg5 arg6 arg7 arg8 x0 x1 x2 x3 x4 x5 xt0 xt1
            ∗ owns (c : Thread nD τ) arg10 fullShare (point i x0 x1 x2 x3 x4 x5 _ _ hw zeroAcc).1 ∗ owns (c : Thread nD τ) arg11 fullShare (point i x0 x1 x2 x3 x4 x5 _ _ hw zeroAcc).2) -∗ K ⟨⟩))
      ⊢ wp frame (wpE (defs₀ (F := F)) Variants.none c none) E (cc0__attn_pool_kernel i tbM0_0 htbM0_0 tbM0_1 htbM0_1 arg3 harg3 arg4 harg4 arg5 harg5 arg6 harg6 arg7 harg7 arg8 harg8 arg9 harg9 arg10 harg10 arg11 harg11) K := by
  simp only [cc0__attn_pool_kernel_eq_skeleton]; unfold cc0__attn_pool_kernel_skel
  simp only [k0_part1_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT0, HT1⟩, ⟨%d0, %fs0, -, HS0⟩, ⟨%d1, %fs1, -, HS1⟩, Hk⟩
  sl_exec (disch := first | sl_exact hc0 | sl_exact hc1 | sl_exact hw)
  sl_step
  iapply Hk
  have hz0 : arg10.view.read (Elt F) (arg10.view.writes (Elt F) arg10.view.junk [⟨Rect.unit (s := S1160x512) ![0, 0] S1160x512.size inb_S1160x512_S1160x512_0_0, k0_pay8⟩]) = (zeroAcc (F := F)).1 := View.read_writes_full _ _ _ _ []
  have hz1 : arg11.view.read (Elt F) (arg11.view.writes (Elt F) arg11.view.junk [⟨Rect.unit (s := S1160x1) ![0, 0] S1160x1.size inb_S1160x1_S1160x1_0_0, k0_pay9⟩]) = (zeroAcc (F := F)).2 := View.read_writes_full _ _ _ _ []
  have hread := read_point c i arg3 harg3 arg4 harg4 arg5 harg5 arg6 harg6 arg7 harg7 arg8 harg8 arg9 harg9 arg10 harg10 arg11 harg11 x0 x1 x2 x3 x4 x5 (word tbM0_0 c i xt0) (word tbM0_1 c i xt1) hw hf0 hf1 hf2 hf3 hf4 hf5 (s := zeroAcc) hz0 hz1
  isplitl [H0 H1 H2 H3 H4 H5 HT0 HT1]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HT0]; · iexact HT0
    iexact HT1
  isplitl [HS0]
  · iexists _; isplitr
    swap; · iexact HS0
    ipureintro
    rw [View.writes_append]
    exact congrArg Prod.fst hread
  iexists _; isplitr
  swap; · iexact HS1
  ipureintro
  rw [View.writes_append]
  exact congrArg Prod.snd hread

set_option maxHeartbeats 1000000 in
/-- THE LAST POINT: the scratch as at a middle point, and the output's buffer at the quotient of what it leaves there. -/
theorem run_last (hc0 : ¬cond0_0 i) (hc1 : cond0_1 i) (s : Acc F) (E : Set ℕ) (K : PUnit → sProp 𝕄) :
    iprop(Inputs c arg3 arg4 arg5 arg6 arg7 arg8 x0 x1 x2 x3 x4 x5 xt0 xt1 ∗ (∃ d, owns (c : Thread nD τ) arg9 fullShare d) ∗ owns (c : Thread nD τ) arg10 fullShare s.1 ∗ owns (c : Thread nD τ) arg11 fullShare s.2
        ∗ (iprop(Inputs c arg3 arg4 arg5 arg6 arg7 arg8 x0 x1 x2 x3 x4 x5 xt0 xt1
            ∗ owns (c : Thread nD τ) arg9 fullShare (quot (point i x0 x1 x2 x3 x4 x5 _ _ hw s)) ∗ owns (c : Thread nD τ) arg10 fullShare (point i x0 x1 x2 x3 x4 x5 _ _ hw s).1 ∗ owns (c : Thread nD τ) arg11 fullShare (point i x0 x1 x2 x3 x4 x5 _ _ hw s).2) -∗ K ⟨⟩))
      ⊢ wp frame (wpE (defs₀ (F := F)) Variants.none c none) E (cc0__attn_pool_kernel i tbM0_0 htbM0_0 tbM0_1 htbM0_1 arg3 harg3 arg4 harg4 arg5 harg5 arg6 harg6 arg7 harg7 arg8 harg8 arg9 harg9 arg10 harg10 arg11 harg11) K := by
  simp only [cc0__attn_pool_kernel_eq_skeleton]; unfold cc0__attn_pool_kernel_skel
  simp only [k0_part1_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT0, HT1⟩, ⟨%d6, %f6, -, H6⟩, ⟨%fs0, %hfs0, HS0⟩, ⟨%fs1, %hfs1, HS1⟩, Hk⟩
  sl_exec (disch := first | sl_exact hc0 | sl_exact hc1 | sl_exact hw)
  sl_step
  iapply Hk
  have hread := read_point c i arg3 harg3 arg4 harg4 arg5 harg5 arg6 harg6 arg7 harg7 arg8 harg8 arg9 harg9 arg10 harg10 arg11 harg11 x0 x1 x2 x3 x4 x5 (word tbM0_0 c i xt0) (word tbM0_1 c i xt1) hw hf0 hf1 hf2 hf3 hf4 hf5 hfs0 hfs1
  isplitl [H0 H1 H2 H3 H4 H5 HT0 HT1]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HT0]; · iexact HT0
    iexact HT1
  isplitl [H6]
  · iexists _; isplitr
    swap; · iexact H6
    ipureintro
    refine (View.read_writes_full arg9.view f6 inb_S1024x512_S1024x512_0_0 _ []).trans ?_
    rw [← hread]
    rfl
  isplitl [HS0]
  · iexists _; isplitr
    swap; · iexact HS0
    ipureintro
    exact congrArg Prod.fst hread
  iexists _; isplitr
  swap; · iexact HS1
  ipureintro
  exact congrArg Prod.snd hread

end

end Cert.KernelIdeal.Attn

end
-- ==== Proof.KernelIdeal.Masks.lean ====
/-
  THE ROWS OF A POINT'S BLOCK past the array's end: the body replaces them by zero before it uses them, so what the
  staging buffer holds there is of no effect.
-/
module

public import proofs.«01_k».proof.Proof.KernelIdeal.Body

@[expose] public section

set_option maxRecDepth 16384

noncomputable section

namespace Cert.KernelIdeal.Attn

open Idealize.ShloMosaic Idealize.ShloMosaic.TcCoe Idealize.ShloMosaic.Tactic
open Idealize.ShloMosaic.Pipeline (Dat Cfg Window BodyObligation cellOf)
open Cert.KernelIdeal.Gen

variable {F : FTy → Type} [FloatOps F]

/-- The comparison of the body's masks, `n < 100000 - 5120 i` in words, in naturals. -/
theorem inside_iff {b n : ℕ} (hb : b < 20) (hn : n < 5120) :
    IntOp.cmpi .slt (BitVec.ofNat 32 n) (Scalar.subi 100000#32 (Scalar.muli (BitVec.ofNat 32 b) 5120#32)) = 1#1 ↔ 5120 * b + n < 100000 := by
  have e : Scalar.subi 100000#32 (Scalar.muli (BitVec.ofNat 32 b) 5120#32) = BitVec.ofNat 32 (100000 - b * 5120) := by
    apply BitVec.eq_of_toNat_eq
    simp only [Scalar.subi, Scalar.muli, BitVec.toNat_sub, BitVec.toNat_mul, BitVec.toNat_ofNat, IntOp.subi, IntOp.muli]
    omega
  rw [e, WordCmp.cmpi_slt_ofNat (by omega) (by omega), WordCmp.ofBool_decide_eq_one_iff]
  omega

/-- A row of the masked block: the block's where it lies inside the array, else zero. -/
theorem pay10_apply (i : grid0.Coords) (v : Vec F S5120x512 .f32) (j : S5120x512.Idx) :
    k0_pay10 i v j = if 5120 * (i 0).val + (j 0).val < 100000 then v j else Scalar.ofBits .f32 0#32 := by
  have hj : (j 0).val < 5120 := (j 0).isLt
  have hi : (i 0).val < 20 := (i 0).isLt
  unfold k0_pay10
  simp only [WordCmp.select_at, WordCmp.cmpi_at, WordCmp.iota_at, WordCmp.broadcast_at, Scalar.select, List.foldl_cons, List.foldl_nil, Nat.zero_mul, Nat.zero_add]
  have e := inside_iff hi hj
  by_cases h : 5120 * (i 0).val + (j 0).val < 100000
  · rw [if_pos h]; exact if_pos (e.mpr h)
  · rw [if_neg h]; exact if_neg fun h' => h (e.mp h')

/-- On the part a transfer moves, a filled block does not depend on what it was filled over. -/
theorem fill_of_moved {G : Pipeline.Grid} (w : Window sig G) {α : Type} (i : G.Coords) (d d' : w.block.Idx → α) (g : (w.xblock i).Idx → α) (j : w.block.Idx)
    (h : w.moved i j = true) : w.fill i d g j = w.fill i d' g j := by
  unfold Window.fill; rw [dif_pos h, dif_pos h]

/-- Two fillings of the same fetched rows are masked to the same block. -/
theorem pay10_fill (a : (pcfg0 (F := F)).Adm) (t : Fin (cfg0 a).N) (d d' : ((cfg0 a).win 0).block.Idx → Elt F ((cfg0 a).win 0).elt)
    (g : (((cfg0 a).win 0).xblock (grid0.coords t)).Idx → Elt F ((cfg0 a).win 0).elt) :
    k0_pay10 (grid0.coords t) (((cfg0 a).win 0).fill (grid0.coords t) d g) = k0_pay10 (grid0.coords t) (((cfg0 a).win 0).fill (grid0.coords t) d' g) := by
  funext j
  refine (pay10_apply (F := F) _ _ j).trans (Eq.trans ?_ (pay10_apply (F := F) _ _ j).symm)
  split
  · next h =>
    refine fill_of_moved ((cfg0 a).win 0) (grid0.coords t) d d' g j ((Window.moved_iff _ _ _).mpr fun ax => ?_)
    have hj0 : (j 0).val < 5120 := (j 0).isLt
    have hj1 : (j 1).val < 512 := (j 1).isLt
    change (j ax).val < (clip0_0 (grid0.coords t) ax).extent (S5120x512.size ax)
    have h0 : (j 0).val < (Pipeline.Clip.of (grid0.coords t 0).val 5120 100000).extent 5120 := by
      unfold Pipeline.Clip.of; split
      · exact hj0
      · change (j 0).val < 100000 - (grid0.coords t 0).val * 5120
        omega
    match ax with
    | ⟨0, _⟩ =>
      have e0 : cc0_transform_0 (grid0.coords t) 0 = (grid0.coords t 0).val := by
        have hi : (grid0.coords t 0).val < 20 := (grid0.coords t 0).isLt
        simp [cc0_transform_0]; omega
      change (j 0).val < (Pipeline.Clip.of (cc0_transform_0 (grid0.coords t) 0) 5120 100000).extent 5120
      rw [e0]; exact h0
    | ⟨1, _⟩ => exact hj1
  · rfl

end Cert.KernelIdeal.Attn

end
-- ==== Proof.KernelIdeal.Frame.lean ====
/-
  THE RUN. What the scratch holds after each grid point (`accAt`: the points' folds one after another, from zero), the
  proof data of the pipeline, the body's obligation at every point, the launch, and the frame. Window 0's last block
  overhangs its array: its obligation is stated on the rows inside the array only, and the scratch is stated at the
  block filled out with zeros, which the masks make equal to any other filling (`point_fill`).
-/
module

public import proofs.«01_k».proof.Proof.KernelIdeal.Masks
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds, point by point -/

/-- Window 0's staging buffer at point `t`, filled out with `d` where the block lies past the array's end. -/
def hfill (hO : Ok m) (c : Dev nD) (t : Fin (cfgM m hO).N) (d : ((cfgM m hO).win 0).block.Idx → Elt F ((cfgM m hO).win 0).elt) : Vec F S5120x512 .f32 :=
  ((cfgM m hO).win 0).fill (grid0.coords t) d (iblk m hO c 0 t)

/-- The same filled out with zeros. -/
def hblk (hO : Ok m) (c : Dev nD) (t : Fin (cfgM m hO).N) : Vec F S5120x512 .f32 := hfill m hO c t fun _ => Scalar.ofBits .f32 0#32

/-- Point `t`'s effect on the scratch. -/
def step (hO : Ok m) (hH : Hyps m hO) (c : Dev nD) (t : Fin (cfgM m hO).N) (s : Acc F) : Acc F :=
  point (grid0.coords t) (hblk m hO c t) (iblk m hO c 1 t) (iblk m hO c 2 t) (iblk m hO c 3 t) (iblk m hO c 4 t) (iblk m hO c 5 t) _ _ (hH c t) s

/-- The scratch after the body at position `n`. -/
def accAt (hO : Ok m) (hH : Hyps m hO) (c : Dev nD) : (n : ℕ) → n < (cfgM m hO).N → Acc F
  | 0, hn => step m hO hH c ⟨0, hn⟩ zeroAcc
  | n + 1, hn => step m hO hH c ⟨n + 1, hn⟩ (accAt hO hH c n (Nat.lt_of_succ_lt hn))

theorem accAt_zero (hO : Ok m) (hH : Hyps m hO) (c : Dev nD) (t : Fin (cfgM m hO).N) (hz : t.val = 0) :
    accAt m hO hH c t.val t.isLt = step m hO hH c t zeroAcc := by
  obtain ⟨n, hn⟩ := t; cases n with
  | zero => rfl
  | succ n => exact absurd hz (Nat.succ_ne_zero n)

theorem accAt_pos (hO : Ok m) (hH : Hyps m hO) (c : Dev nD) (t : Fin (cfgM m hO).N) (hz : t.val ≠ 0) :
    accAt m hO hH c t.val t.isLt = step m hO hH c t (accAt m hO hH c (t.val - 1) (by omega)) := by
  obtain ⟨n, hn⟩ := t; cases n with
  | zero => exact absurd rfl hz
  | succ n => rfl

/-- A point's effect reads window 0's buffer through its mask only, -/
theorem point_congr (i : grid0.Coords) {x0 x0' : Vec F S5120x512 .f32} (h : k0_pay10 i x0 = k0_pay10 i x0') (x1 : Vec F S1x1x5120 .i32) (x2 : Vec F S512x512 .f32)
    (x3 : Vec F S512x1 .f32) (x4 : Vec F S1x512 .f32) (x5 : Vec F S1x1 .f32) (lo nw : Elt F .i32) (hw : k0_chk1 lo nw) (s : Acc F) :
    point i x0 x1 x2 x3 x4 x5 lo nw hw s = point i x0' x1 x2 x3 x4 x5 lo nw hw s := by
  unfold point
  rw [show k0_pay11 i x0 x2 x3 x4 x5 = k0_pay11 i x0' x2 x3 x4 x5 from by unfold k0_pay11; rw [h], h]

/-- so it is the same whatever the block is filled out with. -/
theorem point_fill (hO : Ok m) (hH : Hyps m hO) (c : Dev nD) (t : Fin (cfgM m hO).N) (d) (s : Acc F) :
    point (grid0.coords t) (hfill m hO c t d) (iblk m hO c 1 t) (iblk m hO c 2 t) (iblk m hO c 3 t) (iblk m hO c 4 t) (iblk m hO c 5 t) _ _ (hH c t) s = step m hO hH c t s :=
  point_congr _ (pay10_fill (adm m hO) t d _ _) _ _ _ _ _ _ _ _ _

/-! ## The region's invariant and the proof data -/

/-- What the region carries between points: before the first the scratch at anything, then at `accAt`; the generator
    register at some state; the tables' halves. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (accAt m hO hH c n hn).1 ∗ owns (c : Thread nD τ) scM0_1 fullShare (accAt m hO hH c n hn).2) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

theorem PhiS_succ (hO : Ok m) (hH : Hyps m hO) (c : Dev nD) (n : ℕ) (hn : n < (cfgM m hO).N) :
    PhiS m hO hH c (n + 1) hn = iprop(iprop(iprop(owns (c : Thread nD τ) scM0_0 fullShare (accAt m hO hH c n hn).1 ∗ owns (c : Thread nD τ) scM0_1 fullShare (accAt m hO hH c n hn).2) ∗ (∃ r, prngReg c r)) ∗ Pipeline.ΦT pre0 (tbl m) c) := rfl

theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare (accAt m hO hH c (n - 1) (by omega)).1 ∗ owns (c : Thread nD τ) scM0_1 fullShare (accAt m hO hH c (n - 1) (by omega)).2) ∗ (∃ r, prngReg c r)) ∗ Pipeline.ΦT pre0 (tbl m) c) := by
  cases n with
  | zero => exact absurd rfl hz
  | succ n => rfl

/-- The proof data: the arrays at their contents when the region is entered; after the body the inputs' buffers at
    their blocks, the result's at the quotient of the scratch. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => hblk m hO c t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => quot (accAt m hO hH c t.val t.isLt)
  Φ t := PhiS m hO hH c t.val (Nat.le_of_lt_succ t.isLt)
  q _ := fullShare
  owed _ := 0

theorem A_eq (hO : Ok m) (hH : Hyps m hO) (c : Dev nD) (w : Fin (cfgM m hO).W) : (dats m hO hH 0 c).A w = V m c (Pipeline.arrRef spec0 w) := by
  dsimp only [dats]

theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

theorem after0_0 (hO : Ok m) (hH : Hyps m hO) (c : Dev nD) (t : Fin (cfgM m hO).N) : (dats m hO hH 0 c).after 0 t = hblk m hO c t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = quot (accAt m hO hH c t.val t.isLt) := by dsimp only [dats]; try rfl

/-- Window 0's buffer arrives just fetched: the block's rows inside the array, `d` past its end. -/
theorem before0_0 (hO : Ok m) (hH : Hyps m hO) (c : Dev nD) (t : Fin (cfgM m hO).N) (d) : (dats m hO hH 0 c).before 0 t d = hfill m hO c t d := by
  unfold Dat.before; rw [if_pos (fetch0_0 (adm m hO) t)]
  unfold Dat.fetched Dat.blockOf hfill iblk; rw [A_eq]; try rfl
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d

/-! ## What each window's buffer is left at -/

/-- Window 0: the fetched rows, over some filling. -/
theorem leaves0_0 (hO : Ok m) (hH : Hyps m hO) (c : Dev nD) (t : Fin (cfgM m hO).N) :
    (dats m hO hH 0 c).leaves 0 t = iprop(∃ d, owns (c : Thread nD τ) (ms0_0 m hO t) fullShare (hfill m hO c t d)) := by
  have e : ((cfgM m hO).win 0).cut (grid0.coords t) (hblk m hO c t) = iblk m hO c 0 t := ((cfgM m hO).win 0).cut_fill _ _ _
  have e' : (dats m hO hH 0 c).leaves 0 t = iprop(∃ d, owns (c : Thread nD τ) (ms0_0 m hO t) fullShare (((cfgM m hO).win 0).fill (grid0.coords t) d (((cfgM m hO).win 0).cut (grid0.coords t) (hblk m hO c t)))) := rfl
  rw [e', e]; rfl
theorem leaves0_1 (hO : Ok m) (hH : Hyps m hO) (c : Dev nD) (t : Fin (cfgM m hO).N) :
    (dats m hO hH 0 c).leaves 1 t = owns (c : Thread nD τ) (ms0_1 m hO t) fullShare (iblk m hO c 1 t) := rfl
theorem leaves0_2 (hO : Ok m) (hH : Hyps m hO) (c : Dev nD) (t : Fin (cfgM m hO).N) :
    (dats m hO hH 0 c).leaves 2 t = owns (c : Thread nD τ) (ms0_2 m hO t) fullShare (iblk m hO c 2 t) := rfl
theorem leaves0_3 (hO : Ok m) (hH : Hyps m hO) (c : Dev nD) (t : Fin (cfgM m hO).N) :
    (dats m hO hH 0 c).leaves 3 t = owns (c : Thread nD τ) (ms0_3 m hO t) fullShare (iblk m hO c 3 t) := rfl
theorem leaves0_4 (hO : Ok m) (hH : Hyps m hO) (c : Dev nD) (t : Fin (cfgM m hO).N) :
    (dats m hO hH 0 c).leaves 4 t = owns (c : Thread nD τ) (ms0_4 m hO t) fullShare (iblk m hO c 4 t) := rfl
theorem leaves0_5 (hO : Ok m) (hH : Hyps m hO) (c : Dev nD) (t : Fin (cfgM m hO).N) :
    (dats m hO hH 0 c).leaves 5 t = owns (c : Thread nD τ) (ms0_5 m hO t) fullShare (iblk m hO c 5 t) := rfl
/-- The result's: at the last point the quotient, -/
theorem leaves0_6 (hO : Ok m) (hH : Hyps m hO) (c : Dev nD) (t : Fin (cfgM m hO).N) (h : cond0_1 (grid0.coords t)) :
    (dats m hO hH 0 c).leaves 6 t = owns (c : Thread nD τ) (ms0_6 m hO t) fullShare (quot (accAt m hO hH c t.val t.isLt)) := by
  unfold Dat.leaves; rw [live0_6 m hO t h]; rfl

/-! ## The body's obligation -/

/-- The precondition of the body at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

/-- The postcondition of the body at point `t`. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leaves 0 t
    ∗ (dats m hO hH 0 c).leaves 1 t
    ∗ (dats m hO hH 0 c).leaves 2 t
    ∗ (dats m hO hH 0 c).leaves 3 t
    ∗ (dats m hO hH 0 c).leaves 4 t
    ∗ (dats m hO hH 0 c).leaves 5 t
    ∗ (dats m hO hH 0 c).leaves 6 t)

set_option maxHeartbeats 4000000 in
/-- The body at every point, from the three cases of `Body`: the first, the last, and the others. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [leaves0_0, leaves0_1, leaves0_2, leaves0_3, leaves0_4, leaves0_5]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq, PhiS_castSucc m hO hH c t]
  have hN : t.val < 20 := lt_of_lt_of_eq t.isLt (show (cfgM m hO).N = 20 from N_0)
  by_cases h0 : t.val = 0
  · have hc0 : cond0_0 (grid0.coords t) := (hcond0_0 t).mpr (by omega)
    have hc1 : ¬cond0_1 (grid0.coords t) := fun h => by have := (hcond0_1 t).mp h; omega
    rw [Dat.leaves_idle (dats m hO hH 0 c) 6 t (idle0_6 m hO t hc1) (noFlush0_6 m hO t hc1)]
    rw [PhiS_zero m hO hH c _ _ h0, PhiT0_eq, PhiA0_eq, accAt_zero m hO hH c t h0]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (hfill m hO c t d0) (iblk m hO c 1 t) (iblk m hO c 2 t) (iblk m hO c 3 t) (iblk m hO c 4 t) (iblk m hO c 5 t) (tbl m 0) (tbl m 1) (hH c t) hc0 hc1 Set.univ _)
    rw [point_fill m hO hH c t d0]
    unfold Inputs
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0]; · iexact HS0
    isplitl [HS1]; · iexact HS1
    iintro ⟨⟨H0, H1, H2, H3, H4, H5, HT0, HT1⟩, HS0, HS1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    iexists _; iexact H6
  have hc0 : ¬cond0_0 (grid0.coords t) := fun h => by have := (hcond0_0 t).mp h; omega
  rw [PhiS_pos m hO hH c _ _ h0, PhiT0_eq]
  by_cases h1 : t.val = 19
  · have hc1 : cond0_1 (grid0.coords t) := (hcond0_1 t).mpr (by omega)
    rw [leaves0_6 m hO hH c t hc1]
    rw [accAt_pos m hO hH c t h0]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_last c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (hfill m hO c t d0) (iblk m hO c 1 t) (iblk m hO c 2 t) (iblk m hO c 3 t) (iblk m hO c 4 t) (iblk m hO c 5 t) (tbl m 0) (tbl m 1) (hH c t) hc0 hc1 (accAt m hO hH c (t.val - 1) (by omega)) Set.univ _)
    rw [point_fill m hO hH c t d0]
    unfold Inputs
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [H6]
    · iexists _; iexact H6
    isplitl [HS0]; · iexact HS0
    isplitl [HS1]; · iexact HS1
    iintro ⟨⟨H0, H1, H2, H3, H4, H5, HT0, HT1⟩, H6, HS0, HS1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    iexact H6
  · have hc1 : ¬cond0_1 (grid0.coords t) := fun h => by have := (hcond0_1 t).mp h; omega
    rw [Dat.leaves_idle (dats m hO hH 0 c) 6 t (idle0_6 m hO t hc1) (noFlush0_6 m hO t hc1)]
    rw [accAt_pos m hO hH c t h0]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
    iapply (run_middle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) (hfill m hO c t d0) (iblk m hO c 1 t) (iblk m hO c 2 t) (iblk m hO c 3 t) (iblk m hO c 4 t) (iblk m hO c 5 t) (tbl m 0) (tbl m 1) (hH c t) hc0 hc1 (accAt m hO hH c (t.val - 1) (by omega)) Set.univ _)
    rw [point_fill m hO hH c t d0]
    unfold Inputs
    isplitl [H0 H1 H2 H3 H4 H5 HT0 HT1]
    · isplitl [H0]; · iexact H0
      isplitl [H1]; · iexact H1
      isplitl [H2]; · iexact H2
      isplitl [H3]; · iexact H3
      isplitl [H4]; · iexact H4
      isplitl [H5]; · iexact H5
      isplitl [HT0]; · iexact HT0
      iexact HT1
    isplitl [HS0]; · iexact HS0
    isplitl [HS1]; · iexact HS1
    iintro ⟨⟨H0, H1, H2, H3, H4, H5, HT0, HT1⟩, HS0, HS1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexists d0; iexact H0
    isplitl [H1]; · iexact H1
    isplitl [H2]; · iexact H2
    isplitl [H3]; · iexact H3
    isplitl [H4]; · iexact H4
    isplitl [H5]; · iexact H5
    iexists _; iexact H6

/-- The function the pipeline calls at point `t` is the body at that point's buffers. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m hO) (c : Dev nD) : BodyObligationLoose (dats (F := F) m hO hH 0 c) (defs₀ (F := F)) Variants.none () Set.univ := fun t => by
  rw [bigSep_W0, bigSep_W0, defs₀_row m hO]
  exact triple_restated (sound_body m hO hH c t) rfl .rfl fun _ => .rfl

/-! ## The launch -/

/-- What the launch hands the region is the invariant before the first point, -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- and the invariant after the last gives it back. -/
theorem hout (hO : Ok m) (hH : Hyps m hO) (c : Dev nD) : (dats m hO hH 0 c).Φ (Fin.last (cfgM m hO).N) ⊢ Pipeline.ΦA spec0 c := by
  have hN : (cfgM m hO).N = 20 := N_0
  rw [show (dats m hO hH 0 c).Φ (Fin.last (cfgM m hO).N) = PhiS m hO hH c (cfgM m hO).N le_rfl from rfl, PhiS_pos m hO hH c _ _ (by omega), PhiA0_eq]
  iintro ⟨⟨⟨HS0, HS1⟩, Hg⟩, -⟩
  isplitl [HS0 HS1]
  · isplitl [HS0]
    · iexists _; iexact HS0
    iexists _; iexact HS1
  iexact Hg

-- the launch theorem's implicit arguments are found by unifying its conclusion with this one, which takes unfolding plain
-- definitions in a metavariable's type
set_option backward.isDefEq.respectTransparency.types false in
/-- From any memory with zero counters the launch terminates with every array of the pipeline at what the proof data
    computes, every other buffer as the region found it, and every counter at zero. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => body_obligation m hO hH c) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The frame: the six arguments end as launched, the counters at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO hH) (A_eq m hO hH) (run_main m ρ hO hH)) ((θ_run defs _ _).mono (fun _ h => h.2) (run_main_quiescent m ρ hO hH))

end Cert.KernelIdeal.Attn

end
-- ==== Proof.KernelIdeal.Tables.lean ====
/-
  THE HOST'S ARRAYS, as functions of the ids: the ids padded to 20 blocks by 1024 (`padIds`), each block's first window
  start in units of 8 rows and its number of windows (the two prefetched tables), and what the region finds in each buffer.
-/
module

public import proofs.«01_k».proof.Proof.KernelIdeal.Frame

@[expose] public section

set_option maxRecDepth 16384

noncomputable section

namespace Cert.KernelIdeal.Attn

open Idealize.ShloMosaic Idealize.ShloMosaic.TcCoe Idealize.ShloMosaic.Tactic
open Cert.KernelIdeal.Gen Cert.KernelIdeal Facts

variable {F : FTy → Type} [FloatOps F]
variable (m : (ℓ : Loc nD τ sig) → Buf (Elt F) ℓ)

/-- The ids padded to 20 blocks of 5120 by the word 1024. -/
def padIds (b : IVec S100000 32) : IVec S102400 32 := pad S102400 ![0] ![2400] ![0] b (constantI S_ 32 1024#32) pads_S100000_S102400_024000 h_S_

/-- A scalar word on 20 lanes. -/
def lanes (k : BitVec 32) : IVec S20 32 := broadcastInDim S20 ![] bcast_S_S20 (constantI S_ 32 k)

/-- The host's floor division by a constant: the truncated quotient, less one where the signs differ and it is not exact. -/
def floorDiv (x : IVec S20 32) (k : BitVec 32) : IVec S20 32 :=
  select (andi (cmpi .ne (signi x) (broadcastInDim S20 ![] bcast_S_S20 (signi (constantI S_ 32 k)))) (cmpi .ne (Host.remsi x (lanes k)) (lanes 0#32)))
    (subi (Host.divsi x (lanes k)) (lanes 1#32)) (Host.divsi x (lanes k))

/-- The padded ids by block, and the first and the last of each block. -/
def blkIds (b : IVec S100000 32) : IVec S20x5120 32 := shapeCast S20x5120 (padIds b) shapeCasts_S102400_S20x5120
def firstIds (b : IVec S100000 32) : IVec S20 32 := shapeCast S20 (extractStridedSlice S20x1 ![0, 0] (blkIds b) slices_S20x5120_S20x1_0_0) shapeCasts_S20x1_S20
def lastIds (b : IVec S100000 32) : IVec S20 32 := shapeCast S20 (extractStridedSlice S20x1 ![0, 5119] (blkIds b) slices_S20x5120_S20x1_0_5119) shapeCasts_S20x1_S20

/-- The first table: the block's first id over 8. -/
def loTbl (b : IVec S100000 32) : IVec S20 32 := floorDiv (firstIds b) 8#32
/-- The second: the windows of 128 rows needed from there to the block's last id. -/
def nwTbl (b : IVec S100000 32) : IVec S20 32 :=
  floorDiv (subi (addi (subi (addi (lastIds b) (lanes 1#32)) (muli (loTbl b) (lanes 8#32))) (lanes 128#32)) (lanes 1#32)) 128#32

/-! ## What the region finds in the buffers the host writes -/

theorem V_ids (c : Dev nD) : V m c main_v1 = shapeCast S20x1x5120 (padIds (m ((c : Thread nD τ).loc main_arg1))) shapeCasts_S102400_S20x1x5120 := by
  dsimp only [V]
  simp only [hostOps0, hostOps0_1, hostOps0_2, hostOps0_3, hostOps0_4, hostOps0_5, hostOps0_6, List.flatten_cons, List.flatten_nil, List.append_nil, List.cons_append, List.nil_append]
  entry_read
  rfl

theorem V_lo (c : Dev nD) : V m c main_v5 = loTbl (m ((c : Thread nD τ).loc main_arg1)) := by
  dsimp only [V]
  simp only [hostOps0, hostOps0_1, hostOps0_2, hostOps0_3, hostOps0_4, hostOps0_5, hostOps0_6, List.flatten_cons, List.flatten_nil, List.append_nil, List.cons_append, List.nil_append]
  entry_read
  rfl

/-- Two stretches of host operations, one after the other. -/
theorem after_two (l₁ l₂ : List (HloOp τ sig (Elt F))) (σ : Valuation τ sig (Elt F)) :
    StableHlo.after (l₁ ++ l₂) σ = StableHlo.after l₂ (StableHlo.after l₁ σ) := by
  induction l₁ generalizing σ with
  | nil => rfl
  | cons op l ih => exact ih _

/-- The buffers when the first table is done. -/
abbrev mid (c : Dev nD) : Valuation τ sig (Elt F) :=
  StableHlo.after (List.flatten [hostOps0, hostOps0_1, hostOps0_2, hostOps0_3]) (fun b => m (c, b))

theorem mid_blk (c : Dev nD) : mid m c (Proc.devRef .tc main_v2) = blkIds (m ((c : Thread nD τ).loc main_arg1)) := by
  dsimp only [mid]
  simp only [hostOps0, hostOps0_1, hostOps0_2, hostOps0_3, hostOps0_4, hostOps0_5, hostOps0_6, List.flatten_cons, List.flatten_nil, List.append_nil, List.cons_append, List.nil_append]
  entry_read
  rfl

theorem mid_lo (c : Dev nD) : mid m c (Proc.devRef .tc main_v5) = loTbl (m ((c : Thread nD τ).loc main_arg1)) := by
  dsimp only [mid]
  simp only [hostOps0, hostOps0_1, hostOps0_2, hostOps0_3, hostOps0_4, hostOps0_5, hostOps0_6, List.flatten_cons, List.flatten_nil, List.append_nil, List.cons_append, List.nil_append]
  entry_read
  rfl

/-- The operations between the two divisions, from any contents, -/
theorem rest_num (σ : Valuation τ sig (Elt F)) :
    StableHlo.after hostOps0_4 σ (Proc.devRef .tc main_v16)
      = subi (addi (subi (addi (shapeCast S20 (extractStridedSlice S20x1 ![0, 5119] (σ (Proc.devRef .tc main_v2)) slices_S20x5120_S20x1_0_5119) shapeCasts_S20x1_S20) (lanes 1#32)) (muli (σ (Proc.devRef .tc main_v5)) (lanes 8#32))) (lanes 128#32)) (lanes 1#32) := by
  simp only [hostOps0_4]
  entry_read
  rfl

theorem rest_div (σ : Valuation τ sig (Elt F)) :
    StableHlo.after hostOps0_4 σ (Proc.devRef .tc main_c_5) = constantI S_ 32 128#32 := by
  simp only [hostOps0_4]
  entry_read
  rfl

/-- and the second division. -/
theorem rest_nw (σ : Valuation τ sig (Elt F)) (h : σ (Proc.devRef .tc main_c_5) = constantI S_ 32 128#32) :
    StableHlo.after (hostOps0_5 ++ hostOps0_6) σ (Proc.devRef .tc main_v17) = floorDiv (σ (Proc.devRef .tc main_v16)) 128#32 := by
  simp only [hostOps0_5, hostOps0_6, List.cons_append, List.nil_append]
  entry_read
  rw [h]
  rfl

theorem V_nw (c : Dev nD) : V m c main_v17 = nwTbl (m ((c : Thread nD τ).loc main_arg1)) := by
  have e : V m c main_v17 = StableHlo.after (hostOps0_5 ++ hostOps0_6) (StableHlo.after hostOps0_4 (mid m c)) (Proc.devRef .tc main_v17) := by
    unfold mid; rw [← after_two, ← after_two]; rfl
  rw [e, rest_nw _ (rest_div _), rest_num, mid_blk, mid_lo]; rfl

theorem V_b1 (c : Dev nD) : V m c main_v18 = shapeCast S512x1 (m ((c : Thread nD τ).loc main_arg3)) shapeCasts_S512_S512x1 := by
  dsimp only [V]
  simp only [hostOps0, hostOps0_1, hostOps0_2, hostOps0_3, hostOps0_4, hostOps0_5, hostOps0_6, List.flatten_cons, List.flatten_nil, List.append_nil, List.cons_append, List.nil_append]
  entry_read
  rfl

theorem V_b2 (c : Dev nD) : V m c main_v19 = shapeCast S1x1 (m ((c : Thread nD τ).loc main_arg5)) shapeCasts_S1_S1x1 := by
  dsimp only [V]
  simp only [hostOps0, hostOps0_1, hostOps0_2, hostOps0_3, hostOps0_4, hostOps0_5, hostOps0_6, List.flatten_cons, List.flatten_nil, List.append_nil, List.cons_append, List.nil_append]
  entry_read
  rfl

end Cert.KernelIdeal.Attn

end
-- ==== Proof.Ids.Words.lean ====
/-
  THE PRECONDITION IN NUMBERS. `key b n` is the `n`-th id as a natural number, and 1024 past the end of the array: the
  predicate `sorted_ids` says that it is monotone and below 1024 inside the array. Also the host's floor division of a small
  word by a small positive constant, which is the division of the numbers.
-/
module

public import proofs.«01_k».proof.Proof.Gen.Pre_sorted_ids
public import Idealize.ShloMosaic.Lib.ReduceAll
public import Idealize.ShloMosaic.Lib.WordCmp
public import Idealize.ShloMosaic.Lib.ValueIdx

@[expose] public section

noncomputable section

namespace Cert.Ids

open Idealize.ShloMosaic Idealize.ShloMosaic.WordCmp

/-- The ids as an array of words. -/
abbrev Arr := (⟨1, ![100000]⟩ : Shape).Idx → BitVec 32

/-- The `n`-th id, and 1024 past the end. -/
def key (b : Arr) (n : ℕ) : ℕ := if h : n < 100000 then (b (ValueIdx.ix1 ⟨n, h⟩)).toNat else 1024

/-- The ids are sorted and below 1024. -/
structure Sorted (b : Arr) : Prop where
  mono : Monotone (key b)
  lt : ∀ n, n < 100000 → key b n < 1024

theorem Sorted.le {b : Arr} (h : Sorted b) (n : ℕ) : key b n ≤ 1024 := by
  by_cases hn : n < 100000
  · exact (h.lt n hn).le
  · simp only [key, dif_neg hn, le_refl]

theorem of_pre {F : FTy → Type} [FloatOps F] {x0 : FVec F Pre_sorted_ids.S100000x512 .f32} {b : IVec Pre_sorted_ids.S100000 32}
    {x2 : FVec F Pre_sorted_ids.S512x512 .f32} {x3 : FVec F Pre_sorted_ids.S512 .f32} {x4 : FVec F Pre_sorted_ids.S1x512 .f32} {x5 : FVec F Pre_sorted_ids.S1 .f32}
    (h : Pre_sorted_ids.fn x0 b x2 x3 x4 x5 = fun _ => 1#1) : Sorted b := by
  have h0 := congrFun h (Shape.Idx.first Pre_sorted_ids.Facts.h_S_)
  unfold Pre_sorted_ids.fn at h0
  obtain ⟨hr, hs⟩ := IntOp.andi_eq_one.mp h0
  have hsub : Subsingleton Pre_sorted_ids.S_.Idx := ⟨fun a b => funext fun i => i.elim0⟩
  have hr' := fun i => Host.reduce_andi_all _ _ _ _ _ hr i
  have hs' := fun i => Host.reduce_andi_all _ _ _ _ _ hs i
  have hlt : ∀ i : Pre_sorted_ids.S100000.Idx, (b i).toNat < 1024 := fun i => by
    obtain ⟨h1, h2⟩ := IntOp.andi_eq_one.mp (hr' i)
    have h1 : IntOp.cmpi .sge (b i) 0#32 = 1#1 := h1
    have h2 : IntOp.cmpi .slt (b i) 1024#32 = 1#1 := h2
    rw [cmpi_sge_zero, ofBool_decide_eq_one_iff] at h1
    have h3 : (b i).toInt = ((b i).toNat : ℤ) := toInt_eq_toNat_of_lt_half h1
    have h4 : (1024#32 : BitVec 32).toInt = 1024 := by decide
    rw [cmpi_slt_eq, ofBool_decide_eq_one_iff, h3, h4] at h2
    omega
  have hstep : ∀ n (hn : n + 1 < 100000), (b (ValueIdx.ix1 ⟨n, by omega⟩)).toNat ≤ (b (ValueIdx.ix1 ⟨n + 1, hn⟩)).toNat := fun n hn => by
    have h1 := hs' (ValueIdx.ix1 ⟨n, by omega⟩)
    have e1 : extractStridedSlice Pre_sorted_ids.S99999 ![1] b Pre_sorted_ids.Facts.slices_S100000_S99999_1 (ValueIdx.ix1 ⟨n, by omega⟩) = b (ValueIdx.ix1 ⟨n + 1, hn⟩) :=
      congrArg b (funext fun a => by obtain rfl : a = 0 := Subsingleton.elim _ _; exact Fin.ext (Nat.add_comm 1 n))
    have e0 : extractStridedSlice Pre_sorted_ids.S99999 ![0] b Pre_sorted_ids.Facts.slices_S100000_S99999_0 (ValueIdx.ix1 ⟨n, by omega⟩) = b (ValueIdx.ix1 ⟨n, by omega⟩) :=
      congrArg b (funext fun a => by obtain rfl : a = 0 := Subsingleton.elim _ _; exact Fin.ext (Nat.zero_add n))
    have h2 : IntOp.cmpi .sge (b (ValueIdx.ix1 ⟨n + 1, hn⟩)) (b (ValueIdx.ix1 ⟨n, by omega⟩)) = 1#1 := by rw [← e1, ← e0]; exact h1
    have l1 := hlt (ValueIdx.ix1 ⟨n + 1, hn⟩)
    have l0 := hlt (ValueIdx.ix1 ⟨n, by omega⟩)
    rw [cmpi_sge_eq, ofBool_decide_eq_one_iff, toInt_eq_toNat_of_lt_half (by omega), toInt_eq_toNat_of_lt_half (by omega)] at h2
    omega
  refine ⟨monotone_nat_of_le_succ fun n => ?_, fun n hn => by simp only [key, dif_pos hn]; exact hlt _⟩
  by_cases hn : n + 1 < 100000
  · simp only [key, dif_pos hn, dif_pos (show n < 100000 by omega)]; exact hstep n hn
  · by_cases hn' : n < 100000
    · simp only [key, dif_neg hn, dif_pos hn']; exact (hlt _).le
    · simp only [key, dif_neg hn, dif_neg hn', le_refl]

/-! ## Floor division -/

theorem signi_small {s : Shape} (x : IVec s 32) (i : s.Idx) (hx : (x i).toNat < 2 ^ 31) : signi x i = if (x i).toNat = 0 then 0#32 else 1#32 := by
  have hm : (x i).msb = false := by rw [BitVec.msb_eq_false_iff_two_mul_lt]; omega
  unfold signi
  rw [hm]
  by_cases h : x i = 0
  · rw [if_pos h, if_pos (by rw [h]; rfl)]; rfl
  · have h2 : ¬(x i).toNat = 0 := fun h0 => h (BitVec.eq_of_toNat_eq h0)
    rw [if_neg h, if_neg (by simp), if_neg h2]; rfl

/-- The truncated quotient of a small word by a small positive constant is that of the numbers. -/
theorem divsi_small {x : BitVec 32} {k : ℕ} (hx : x.toNat < 2 ^ 31) (hk : 0 < k) (hk' : k < 2 ^ 31) :
    IntOp.divsi .host x (BitVec.ofNat 32 k) = BitVec.ofNat 32 (x.toNat / k) := by
  have hkN : (BitVec.ofNat 32 k).toNat = k := by rw [BitVec.toNat_ofNat]; omega
  have hm : x.msb = false := by rw [BitVec.msb_eq_false_iff_two_mul_lt]; omega
  have hkm : (BitVec.ofNat 32 k).msb = false := by rw [BitVec.msb_eq_false_iff_two_mul_lt]; omega
  have hc : ¬IntOp.SDivCorner x (BitVec.ofNat 32 k) := IntOp.not_corner_of_pos (by rw [BitVec.toInt_eq_toNat_of_lt (by omega)]; omega)
  refine (if_neg hc).trans ?_
  rw [BitVec.sdiv_eq, hm, hkm]
  apply BitVec.eq_of_toNat_eq
  show (x / BitVec.ofNat 32 k).toNat = _
  rw [BitVec.toNat_udiv, hkN, BitVec.toNat_ofNat, Nat.mod_eq_of_lt (lt_of_le_of_lt (Nat.div_le_self _ _) (by omega))]

/-- The correction of the floor division is not taken: either the signs agree, or the word is 0 and leaves no remainder. -/
theorem floor_small {x : BitVec 32} {k : ℕ} (hx : x.toNat < 2 ^ 31) (hk : 0 < k) (hk' : k < 2 ^ 31) (g : BitVec 1) (y : BitVec 32)
    (hg : x.toNat ≠ 0 → g = 0#1) :
    (if IntOp.andi g (IntOp.cmpi .ne (IntOp.remsi .host x (BitVec.ofNat 32 k)) 0#32) = 1 then y else IntOp.divsi .host x (BitVec.ofNat 32 k))
      = BitVec.ofNat 32 (x.toNat / k) := by
  rw [divsi_small hx hk hk']
  refine if_neg fun h => ?_
  obtain ⟨h1, h2⟩ := IntOp.andi_eq_one.mp h
  by_cases h0 : x.toNat = 0
  · rw [(IntOp.remsi_eq_zero_iff .host (by omega) k hk (by omega)).mpr (by rw [h0]; exact Nat.dvd_zero k)] at h2
    exact absurd h2 (by decide)
  · rw [hg h0] at h1; exact absurd h1 (by decide)

end Cert.Ids

end
-- ==== Proof.KernelIdeal.Windows.lean ====
/-
  THE TWO TABLES AND THE WINDOWS IN NUMBERS. With sorted ids, block `t` starts its windows at row `8 * lo` with
  `lo = key (5120 t) / 8` and has `nw = (key (5120 t + 5119) + 1 - 8 lo + 127) / 128` of them, each of 128 rows; all of them lie
  inside the 1160 rows of the two scratches, which is the side condition the body assumes of the words it reads.
-/
module

public import proofs.«01_k».proof.Proof.KernelIdeal.Tables
public import proofs.«01_k».proof.Proof.Ids.Words
public import Idealize.ShloMosaic.Lib.LoopRemainder
public import Idealize.ShloMosaic.Lib.KernelVsHost
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic Idealize.ShloMosaic.ValueIdx
open Cert.KernelIdeal.Gen Cert.KernelIdeal Facts Cert.Ids

variable {F : FTy → Type} [FloatOps F]

/-! ## The loop and its windows -/

theorem loop_eq (v : BitVec 32) : k0_t1_loop v = ⟨0#32, v, 1#32⟩ := by
  show (⟨0#32, Scalar.addi 0#32 (Scalar.muli (Scalar.divsi (Scalar.subi v 0#32) 1#32) 1#32), 1#32⟩ : Scf.Loop 32) = _
  rw [Scalar.muli_divsi_one]
  have : Scalar.addi 0#32 (Scalar.subi v 0#32) = v := by
    show (0#32 : BitVec 32) + (v - 0#32) = v
    rw [BitVec.sub_zero, BitVec.zero_add]
  rw [this]

theorem trips_small {n : ℕ} (hn : n < 2 ^ 31) : (k0_t1_loop (BitVec.ofNat 32 n)).trips = n := by
  rw [loop_eq]
  show (((BitVec.ofNat 32 n).toInt - (0#32 : BitVec 32).toInt + (1#32 : BitVec 32).toInt - 1) / (1#32 : BitVec 32).toInt).toNat = n
  have h0 : (0#32 : BitVec 32).toInt = 0 := by decide
  have h1 : (1#32 : BitVec 32).toInt = 1 := by decide
  have hN : (BitVec.ofNat 32 n).toNat = n := by rw [BitVec.toNat_ofNat]; omega
  rw [h0, h1, BitVec.toInt_eq_toNat_of_lt (by omega), hN]
  omega

/-- The row window `k` of a block starts at. -/
theorem base_small {l k : ℕ} (h : l * 8 + k * 128 < 2 ^ 31) :
    Scalar.addi (Scalar.muli (BitVec.ofNat 32 l) 8#32) (Scalar.muli (Scf.iv 0#32 1#32 k) 128#32) = BitVec.ofNat 32 (l * 8 + k * 128) := by
  have e : (Scf.iv 0#32 1#32 k : BitVec 32) = BitVec.ofNat 32 k := by
    show (0#32 : BitVec 32) + BitVec.ofNat 32 k * 1#32 = _
    rw [BitVec.mul_one, BitVec.zero_add]
  rw [e]
  show BitVec.ofNat 32 l * 8#32 + BitVec.ofNat 32 k * 128#32 = _
  apply BitVec.eq_of_toNat_eq
  simp only [BitVec.toNat_add, BitVec.toNat_mul, BitVec.toNat_ofNat]
  omega

theorem off2_small {l n : ℕ} (k : Fin (k0_t1_loop (BitVec.ofNat 32 n)).trips) (h : l * 8 + k.val * 128 < 2 ^ 31) :
    k0_off2 (BitVec.ofNat 32 l) (BitVec.ofNat 32 n) k = ![l * 8 + k.val * 128, 0] := by
  show ![(Scalar.addi (Scalar.muli (BitVec.ofNat 32 l) 8#32) (Scalar.muli (Scf.iv 0#32 1#32 k) 128#32)).toNat, 0] = _
  rw [base_small h, BitVec.toNat_ofNat, Nat.mod_eq_of_lt (by omega)]

theorem off3_small {l n : ℕ} (k : Fin (k0_t1_loop (BitVec.ofNat 32 n)).trips) (h : l * 8 + k.val * 128 < 2 ^ 31) :
    k0_off3 (BitVec.ofNat 32 l) (BitVec.ofNat 32 n) k = ![l * 8 + k.val * 128, 0] := by
  show ![(Scalar.addi (Scalar.muli (BitVec.ofNat 32 l) 8#32) (Scalar.muli (Scf.iv 0#32 1#32 k) 128#32)).toNat, 0] = _
  rw [base_small h, BitVec.toNat_ofNat, Nat.mod_eq_of_lt (by omega)]

theorem chk_small {l n : ℕ} (h : l * 8 + n * 128 ≤ 1160) : k0_chk1 (BitVec.ofNat 32 l) (BitVec.ofNat 32 n) := by
  have ht : (k0_t1_loop (BitVec.ofNat 32 n)).trips = n := trips_small (by omega)
  have hN : (BitVec.ofNat 32 n).toNat = n := by rw [BitVec.toNat_ofNat]; omega
  refine ⟨?_, fun k a => ?_, fun k a => ?_, Scf.rem_ok 0#32 (Scalar.subi (BitVec.ofNat 32 n) 0#32), fun k => ?_, fun k => ?_⟩
  · have h1 : (1#32 : BitVec 32).toInt = 1 := by decide
    have h0 : (0#32 : BitVec 32).toInt = 0 := by decide
    refine ⟨by show 0 < (1#32 : BitVec 32).toInt; omega, ?_⟩
    show (0#32 : BitVec 32).toInt + ((k0_t1_loop (BitVec.ofNat 32 n)).trips : ℤ) * (1#32 : BitVec 32).toInt < 2 ^ 31
    rw [ht, h0, h1]; omega
  · have hk : k.val < n := lt_of_lt_of_eq k.isLt ht
    rw [off2_small k (by omega)]
    match a with
    | ⟨0, _⟩ => show l * 8 + k.val * 128 + 128 ≤ 1160; omega
    | ⟨1, _⟩ => show 0 + 512 ≤ 512; omega
  · have hk : k.val < n := lt_of_lt_of_eq k.isLt ht
    rw [off3_small k (by omega)]
    match a with
    | ⟨0, _⟩ => show l * 8 + k.val * 128 + 128 ≤ 1160; omega
    | ⟨1, _⟩ => show 0 + 1 ≤ 1; omega
  · exact (Scf.rem_no_trip 0#32 (Scalar.subi (BitVec.ofNat 32 n) 0#32) k).elim
  · exact (Scf.rem_no_trip 0#32 (Scalar.subi (BitVec.ofNat 32 n) 0#32) k).elim

/-! ## The tables -/

/-- A block's first window row over 8, and its number of windows. -/
def lo (b : Arr) (t : ℕ) : ℕ := key b (5120 * t) / 8
def nw (b : Arr) (t : ℕ) : ℕ := (key b (5120 * t + 5119) + 1 - lo b t * 8 + 127) / 128

theorem windows_fit {b : Arr} (hb : Sorted b) (t : ℕ) : lo b t * 8 + nw b t * 128 ≤ 1160 := by
  have h1 := hb.le (5120 * t + 5119)
  have h2 : key b (5120 * t) ≤ key b (5120 * t + 5119) := hb.mono (by omega)
  unfold nw lo; omega

/-- Every id of a block lies in one of its windows. -/
theorem windows_cover {b : Arr} (hb : Sorted b) (t j : ℕ) (hj : j < 5120) :
    lo b t * 8 ≤ key b (5120 * t + j) ∧ key b (5120 * t + j) < lo b t * 8 + nw b t * 128 := by
  have h1 : key b (5120 * t) ≤ key b (5120 * t + j) := hb.mono (by omega)
  have h2 : key b (5120 * t + j) ≤ key b (5120 * t + 5119) := hb.mono (by omega)
  unfold nw lo; omega

theorem key_ofNat (b : Arr) (n : ℕ) (h : n < 100000) : b (ix1 ⟨n, h⟩) = BitVec.ofNat 32 (key b n) := by
  simp only [key, dif_pos h, BitVec.ofNat_toNat, BitVec.setWidth_eq]

theorem padIds_apply (b : Arr) (n : Fin 102400) : padIds b (ix1 n) = BitVec.ofNat 32 (key b n.val) := by
  unfold padIds
  by_cases h : n.val < 100000
  · rw [← key_ofNat b n.val h]
    exact pad_apply_of_inside _ _ _ b _ _ _ _ (ix1 ⟨n.val, h⟩) fun a => by
      obtain rfl : a = 0 := Subsingleton.elim _ _
      show n.val = 0 + n.val * (0 + 1); omega
  · refine (pad_apply_of_not_inside _ _ _ b _ _ _ _ (0 : Fin 1) fun h' => h ?_).trans ?_
    · have := h'.2.2
      have e : (n.val - 0) / (0 + 1) < 100000 := this
      omega
    · simp only [key, dif_neg h]; rfl

theorem blkIds_apply (b : Arr) (t : Fin 20) (j : Fin 5120) : blkIds b (ix2 t j) = BitVec.ofNat 32 (key b (5120 * t.val + j.val)) := by
  refine (shapeCast_apply (padIds b) shapeCasts_S102400_S20x5120 (ix2 t j) (ix1 ⟨5120 * t.val + j.val, by omega⟩) ?_).trans (padIds_apply b _)
  rw [Shape.rowMajor_val_one, Shape.rowMajor_val_two]
  show 5120 * t.val + j.val = t.val * 5120 + j.val
  omega

theorem firstIds_apply (b : Arr) (t : Fin 20) : firstIds b (ix1 t) = BitVec.ofNat 32 (key b (5120 * t.val)) := by
  refine (shapeCast_apply _ shapeCasts_S20x1_S20 (ix1 t) (ix2 t 0) ?_).trans ?_
  · rw [Shape.rowMajor_val_one, Shape.rowMajor_val_two]
    show t.val * 1 + 0 = t.val
    omega
  · refine (congrArg (blkIds b) (?_ : _ = ix2 t 0)).trans (blkIds_apply b t 0)
    funext a
    match a with
    | ⟨0, _⟩ => exact Fin.ext (Nat.zero_add _)
    | ⟨1, _⟩ => exact Fin.ext (Nat.zero_add _)

theorem lastIds_apply (b : Arr) (t : Fin 20) : lastIds b (ix1 t) = BitVec.ofNat 32 (key b (5120 * t.val + 5119)) := by
  refine (shapeCast_apply _ shapeCasts_S20x1_S20 (ix1 t) (ix2 t 0) ?_).trans ?_
  · rw [Shape.rowMajor_val_one, Shape.rowMajor_val_two]
    show t.val * 1 + 0 = t.val
    omega
  · refine (congrArg (blkIds b) (?_ : _ = ix2 t ⟨5119, by decide⟩)).trans (blkIds_apply b t ⟨5119, by decide⟩)
    funext a
    match a with
    | ⟨0, _⟩ => exact Fin.ext (Nat.zero_add _)
    | ⟨1, _⟩ => exact Fin.ext (Nat.add_zero _)

theorem floorDiv_apply (x : IVec S20 32) {k : ℕ} (i : S20.Idx) (hx : (x i).toNat < 2 ^ 31) (hk : 0 < k) (hk' : k < 2 ^ 31) :
    floorDiv x (BitVec.ofNat 32 k) i = BitVec.ofNat 32 ((x i).toNat / k) := by
  refine floor_small hx hk hk' (IntOp.cmpi .ne (signi x i) (signi (constantI S_ 32 (BitVec.ofNat 32 k)) (Shape.Idx.first h_S_))) _ fun h0 => ?_
  have hN : (BitVec.ofNat 32 k).toNat = k := by rw [BitVec.toNat_ofNat]; omega
  rw [signi_small x i hx, if_neg h0,
    signi_small (constantI S_ 32 (BitVec.ofNat 32 k)) _ (by show (BitVec.ofNat 32 k).toNat < 2 ^ 31; omega),
    if_neg (by show ¬(BitVec.ofNat 32 k).toNat = 0; omega)]
  decide

theorem loTbl_apply {b : Arr} (hb : Sorted b) (t : Fin 20) : loTbl b (ix1 t) = BitVec.ofNat 32 (lo b t.val) := by
  have h := hb.le (5120 * t.val)
  have hN : (BitVec.ofNat 32 (key b (5120 * t.val))).toNat = key b (5120 * t.val) := by rw [BitVec.toNat_ofNat]; omega
  refine (floorDiv_apply (k := 8) (firstIds b) (ix1 t) (by rw [firstIds_apply, hN]; omega) (by decide) (by decide)).trans ?_
  rw [firstIds_apply, hN]; rfl

theorem nwTbl_apply {b : Arr} (hb : Sorted b) (t : Fin 20) : nwTbl b (ix1 t) = BitVec.ofNat 32 (nw b t.val) := by
  have h1 := hb.le (5120 * t.val + 5119)
  have h2 : key b (5120 * t.val) ≤ key b (5120 * t.val + 5119) := hb.mono (by omega)
  have hl : lo b t.val * 8 ≤ key b (5120 * t.val) := by unfold lo; omega
  have e : subi (addi (subi (addi (lastIds b) (lanes 1#32)) (muli (loTbl b) (lanes 8#32))) (lanes 128#32)) (lanes 1#32) (ix1 t)
      = BitVec.ofNat 32 (key b (5120 * t.val + 5119) + 1 - lo b t.val * 8 + 127) := by
    show lastIds b (ix1 t) + 1#32 - loTbl b (ix1 t) * 8#32 + 128#32 - 1#32 = _
    rw [lastIds_apply, loTbl_apply hb]
    apply BitVec.eq_of_toNat_eq
    simp only [BitVec.toNat_add, BitVec.toNat_sub, BitVec.toNat_mul, BitVec.toNat_ofNat]
    omega
  have hN : (BitVec.ofNat 32 (key b (5120 * t.val + 5119) + 1 - lo b t.val * 8 + 127)).toNat = key b (5120 * t.val + 5119) + 1 - lo b t.val * 8 + 127 := by
    rw [BitVec.toNat_ofNat]; omega
  refine (floorDiv_apply (k := 128) _ (ix1 t) (by rw [e, hN]; omega) (by decide) (by decide)).trans ?_
  rw [e, hN]; rfl

/-! ## The words the body reads -/

variable (m : (ℓ : Loc nD τ sig) → Buf (Elt F) ℓ)

/-- The ids of the one device. -/
abbrev ids : Arr := m (((0 : Dev nD) : Thread nD τ).loc main_arg1)

theorem at_point (i : grid0.Coords) :
    (Rect.unit (s := S20) (k0_off1 i) S1.size (k0_off1_inb i)).emb (Shape.Idx.first (numel1_S1.symm ▸ Nat.one_pos)) = ix1 (i 0) := by
  funext a
  obtain rfl : a = 0 := Subsingleton.elim _ _
  refine Fin.ext ?_
  show k0_off1 i 0 + 1 * 0 = (i 0).val
  rw [k0_off1_eq i]
  rfl

theorem word_lo (c : Dev nD) (i : grid0.Coords) (f : IVec S20 32) : word (F := F) tbM0_0 c i f = f (ix1 (i 0)) :=
  congrArg f (at_point i)
theorem word_nw (c : Dev nD) (i : grid0.Coords) (f : IVec S20 32) : word (F := F) tbM0_1 c i f = f (ix1 (i 0)) :=
  congrArg f (at_point i)

theorem tbl_lo : tbl m 0 = loTbl (ids m) := V_lo m 0
theorem tbl_nw : tbl m 1 = nwTbl (ids m) := V_nw m 0

theorem word_lo_eq (hb : Sorted (ids m)) (c : Dev nD) (i : grid0.Coords) :
    word tbM0_0 c i (tbl m 0) = BitVec.ofNat 32 (lo (ids m) (i 0).val) := by
  rw [tbl_lo, word_lo]; exact loTbl_apply hb (i 0)
theorem word_nw_eq (hb : Sorted (ids m)) (c : Dev nD) (i : grid0.Coords) :
    word tbM0_1 c i (tbl m 1) = BitVec.ofNat 32 (nw (ids m) (i 0).val) := by
  rw [tbl_nw, word_nw]; exact nwTbl_apply hb (i 0)

/-- With sorted ids every window lies inside the scratches. -/
theorem hyps (hO : Ok m) (hb : Sorted (ids m)) : Hyps m hO := fun c t => by
  rw [word_lo_eq m hb, word_nw_eq m hb]
  exact chk_small (windows_fit hb _)

end Cert.KernelIdeal.Attn

end
-- ==== Proof.Kernel.Frame.lean ====
/-
  THE FRAMES OF THE KERNEL: with sorted ids the kernel terminates without a fault, leaves its arguments as they were and every
  semaphore at zero, at both readings of the floats.
-/
module

public import proofs.«01_k».proof.Defs
public import proofs.«01_k».proof.Proof.Kernel.SameProgram
public import proofs.«01_k».proof.Proof.KernelIdeal.Windows

@[expose] public section

set_option maxRecDepth 65536

namespace Cert.Kernel.Same

open Idealize.ShloMosaic

theorem frame_ideal : Cert.quiescent_KernelIdeal := fun m g hpre =>
  KernelIdeal.Attn.frame m g trivial (KernelIdeal.Attn.hyps m trivial (Ids.of_pre (hpre 0)))

theorem frame_bits : Cert.quiescent_Kernel := fun m g hpre => by
  rw [defs_eq, main_eq]
  exact KernelIdeal.Attn.frame (F := Bits) m g trivial (KernelIdeal.Attn.hyps m trivial (Ids.of_pre (hpre 0)))

end Cert.Kernel.Same
-- ==== Proof.ReferenceIdeal.Run.lean ====
/-
  THE RUN OF THE REFERENCE. @main is a straight line of host operations, so its run is the library's `run_hlo`: every buffer
  ends at the operations' results folded over the launch contents. `out` is what that fold leaves at the result's buffer,
  written stage by stage: the scores' exponentials, their sum per segment, the weights, the weighted rows' sum per segment.
-/
module

public import proofs.«01_k».proof.Defs
public import proofs.«01_k».proof.Proof.Gen.Kernel
public import proofs.«01_k».proof.Proof.Gen.KernelIdeal
public import proofs.«01_k».proof.Proof.Gen.Pre_sorted_ids
public import proofs.«01_k».proof.Proof.Gen.ReferenceIdeal
public import Idealize.ShloMosaic.Lib.StableHlo.RunHlo
public import Idealize.ShloMosaic.Lib.Claim
public import Idealize.ShloMosaic.Lib.Tactic

@[expose] public section

noncomputable section

namespace Cert.ReferenceIdeal.Attn

open Cert.ReferenceIdeal Cert.ReferenceIdeal.Gen
open Idealize.ShloMosaic Idealize.ShloMosaic.TcCoe Idealize.ShloMosaic.StableHlo Idealize.SL.Sem

variable {F : FTy → Type} [FloatOps F]

/-- `exp (tanh (h · W1ᵀ + b1) · W2ᵀ + b2)`, one number for each row. -/
def ex (h : Vec F S100000x512 .f32) (w1 : Vec F S512x512 .f32) (b1 : Vec F S512 .f32) (w2 : Vec F S1x512 .f32) (b2 : Vec F S1 .f32) :
    Vec F S100000x1 .f32 :=
  Host.exp (addf
    (Host.dotGeneral dot_S100000x512_S512x1_S100000x1_1_0_0_1_n_n none
      (Host.tanh (addf
        (Host.dotGeneral dot_S100000x512_S512x512_S100000x512_1_0_0_1_n_n none h (transpose S512x512 [1, 0] w1 transposes_S512x512_S512x512_1_0))
        (broadcastInDim S100000x512 ![0, 1] bcast_S1x512_S100000x512_0_1 (broadcastInDim S1x512 ![1] bcast_S512_S1x512_1 b1))))
      (transpose S512x1 [1, 0] w2 transposes_S1x512_S512x1_1_0))
    (broadcastInDim S100000x1 ![0, 1] bcast_S1x1_S100000x1_0_1 (broadcastInDim S1x1 ![1] bcast_S1_S1x1_1 b2)))

/-- The ids as a column. -/
def col (b : Vec F S100000 .i32) : Vec F S100000x1 .i32 := broadcastInDim S100000x1 ![0] bcast_S100000_S100000x1_0 b

/-- The sum of `e` over each segment. -/
def segSum (b : Vec F S100000 .i32) (e : Vec F S100000x1 .f32) : Vec F S1024x1 .f32 :=
  Host.scatterAdd scatter_S1024x1_S100000x1_S100000x1_1_0_0_1
    (broadcastInDim S1024x1 ![] bcast_S_S1024x1 (constant S_ .f32 0x00000000#32)) (col b) e

/-- The ids, a negative one counted from the end. -/
def wrapped (b : Vec F S100000 .i32) : Vec F S100000 .i32 :=
  select (cmpi .slt b (broadcastInDim S100000 ![] bcast_S_S100000 (constantI S_ 32 0#32)))
    (addi b (broadcastInDim S100000 ![] bcast_S_S100000 (constantI S_ 32 1024#32))) b

/-- `e / (segSum[b] + 1e-16)`. -/
def weights (b : Vec F S100000 .i32) (e : Vec F S100000x1 .f32) : Vec F S100000x1 .f32 :=
  Host.divf e (addf (Host.gather gather_S1024x1_S100000x1_S100000x1_1_0_n_n_0_1_11 (segSum b e) (col (wrapped b)))
    (broadcastInDim S100000x1 ![] bcast_S_S100000x1 (constant S_ .f32 0x24E69595#32)))

/-- The weighted rows summed over each segment. -/
def pooled (h : Vec F S100000x512 .f32) (b : Vec F S100000 .i32) (w : Vec F S100000x1 .f32) : Vec F S1024x512 .f32 :=
  Host.scatterAdd scatter_S1024x512_S100000x1_S100000x512_1_0_0_1
    (broadcastInDim S1024x512 ![] bcast_S_S1024x512 (constant S_ .f32 0x00000000#32)) (col b)
    (mulf h (broadcastInDim S100000x512 ![0, 1] bcast_S100000x1_S100000x512_0_1 w))

/-- The reference's result of its arguments. -/
def out (h : Vec F S100000x512 .f32) (b : Vec F S100000 .i32) (w1 : Vec F S512x512 .f32) (b1 : Vec F S512 .f32) (w2 : Vec F S1x512 .f32)
    (b2 : Vec F S1 .f32) : Vec F S1024x512 .f32 :=
  pooled h b (weights b (ex h w1 b1 w2 b2))

/-- The run: the result at `out` of the arguments' launch contents, the arguments as launched, the counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v29)
          = out (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0 := by
  refine θ_run_mono (run_hlo defs main (by hlo_seq) (by decide) (by decide) (by simp) (by simp only [List.forall_mem_cons, List.not_mem_nil, false_imp_iff, implies_true, and_true]; repeat (first | rfl | refine ⟨rfl, ?_⟩)) m ρ) ?_
  intro r h
  refine ⟨fun c => ⟨(h c main_v29).trans ?_, (h c main_arg0).trans ?_, (h c main_arg1).trans ?_, (h c main_arg2).trans ?_,
    (h c main_arg3).trans ?_, (h c main_arg4).trans ?_, (h c main_arg5).trans ?_⟩, sem_eq_zero_of_no_sems (by decide) r.2⟩ <;>
  (after_results; try rfl)

/-- The reference's frame. -/
theorem frame_ref : Cert.quiescent_ReferenceIdeal := by
  intro m ρ _
  exact θ_run_mono (run_main m ρ) fun r h => ⟨fun c => (h.1 c).2, h.2⟩

end Cert.ReferenceIdeal.Attn

end
-- ==== Proof.KernelIdeal.Rows.lean ====
/-
  THE FOLD AT AN INDEX. Over the reals a window adds, to each of its 128 rows, the block's entries whose id is the row's number;
  rows outside the window are left alone. So the windows of a block, which together cover every id of the block, add to every row
  of a scratch exactly the entries of the block with that id: `block_num`, `block_den`.
-/
module

public import proofs.«01_k».proof.Proof.KernelIdeal.Windows
public import Idealize.ShloMosaic.Lib.Pointwise

@[expose] public section

set_option maxRecDepth 16384

noncomputable section

namespace Cert.KernelIdeal.Attn

open Idealize.ShloMosaic Idealize.ShloMosaic.TcCoe
open Cert.KernelIdeal.Gen Cert.KernelIdeal Facts Cert.Ids

/-- Writing back a window of rows `o, …, o + n - 1` to each of which something was added. -/
theorem put_rows {R C n o : ℕ} (x : (⟨2, ![R, C]⟩ : Shape).Idx → EReal) (off : Fin 2 → ℕ) (hoff : off = ![o, 0])
    (inb : ∀ a, off a + (![n, C] : Fin 2 → ℕ) a ≤ (⟨2, ![R, C]⟩ : Shape).size a) (w : ((a : Fin 2) → Fin ((![n, C] : Fin 2 → ℕ) a)) → EReal)
    (g : ℕ → EReal) (r : Fin R) (d : Fin C)
    (hw : ∀ q : Fin n, w (ix2 q d) = VecWindow.window x off ![n, C] inb (ix2 q d) + g (o + q.val)) :
    VecWindow.put x off ![n, C] w (ix2 r d) = x (ix2 r d) + if o ≤ r.val ∧ r.val < o + n then g r.val else 0 := by
  subst hoff
  unfold VecWindow.put
  by_cases h : o ≤ r.val ∧ r.val < o + n
  · have hin : ∀ a : Fin 2, (![o, 0] : Fin 2 → ℕ) a ≤ ((ix2 r d : (⟨2, ![R, C]⟩ : Shape).Idx) a).val
        ∧ ((ix2 r d : (⟨2, ![R, C]⟩ : Shape).Idx) a).val < (![o, 0] : Fin 2 → ℕ) a + (![n, C] : Fin 2 → ℕ) a := fun a => by
      match a with
      | ⟨0, _⟩ => exact h
      | ⟨1, _⟩ => exact ⟨Nat.zero_le _, by show d.val < 0 + C; omega⟩
    rw [if_pos h]
    refine (dif_pos hin).trans ?_
    have e : Rect.unitLocal (s := ⟨2, ![R, C]⟩) (off := ![o, 0]) (size := ![n, C]) (ix2 r d) hin = ix2 (⟨r.val - o, by omega⟩ : Fin n) d := by
      funext a
      match a with
      | ⟨0, _⟩ => rfl
      | ⟨1, _⟩ => rfl
    have e' : VecWindow.window x ![o, 0] ![n, C] inb (ix2 (⟨r.val - o, by omega⟩ : Fin n) d) = x (ix2 r d) := by
      refine congrArg x (funext fun a => Fin.ext ?_)
      match a with
      | ⟨0, _⟩ => show o + 1 * (r.val - o) = r.val; omega
      | ⟨1, _⟩ => show 0 + 1 * d.val = d.val; omega
    refine (congrArg w e).trans ((hw ⟨r.val - o, by omega⟩).trans ?_)
    refine congrArg₂ (· + ·) e' (congrArg g ?_)
    show o + (r.val - o) = r.val; omega
  · rw [if_neg h, add_zero]
    exact dif_neg fun hin => h (hin 0)

variable (hv : Vec Ideal S5120x512 .f32) (ex : FVec Ideal S1x5120 .f32) (κ : Fin 5120 → ℕ) (l n : ℕ)

/-- The ids of a block as the body holds them. -/
def words : IVec S1x5120 32 := fun i => BitVec.ofNat 32 (κ (i 1))

/-- An entry of the block's indicator matrix times the weights. -/
theorem pay1_at (hκ : ∀ j, κ j ≤ 1024) (hf : l * 8 + n * 128 ≤ 1160) (k : Fin (k0_t1_loop (BitVec.ofNat 32 n)).trips) (q : Fin 128) (j : Fin 5120) :
    k0_pay1 (F := Ideal) ex (words κ) (BitVec.ofNat 32 l) (BitVec.ofNat 32 n) k (ix2 q j) = if κ j = l * 8 + k.val * 128 + q.val then ex (ix2 0 j) else 0 := by
  have hk : k.val < n := k.isLt.trans_eq (trips_small (by omega))
  have hb : l * 8 + k.val * 128 + 128 ≤ 1160 := by omega
  have hκj := hκ j
  unfold k0_pay1
  pointwise
  rw [base_small (by omega)]
  have e : IntOp.cmpi .eq (IntOp.subi (words κ (ix2 0 j)) (BitVec.ofNat 32 (l * 8 + k.val * 128))) (BitVec.ofNat 32 q.val) = 1#1
      ↔ κ j = l * 8 + k.val * 128 + q.val := by
    rw [WordCmp.cmpi_eq_eq, WordCmp.ofBool_decide_eq_one_iff, ← BitVec.toNat_inj]
    show (BitVec.ofNat 32 (κ j) - BitVec.ofNat 32 (l * 8 + k.val * 128)).toNat = (BitVec.ofNat 32 q.val).toNat ↔ _
    rw [BitVec.toNat_sub, BitVec.toNat_ofNat, BitVec.toNat_ofNat, BitVec.toNat_ofNat]
    omega
  by_cases h : κ j = l * 8 + k.val * 128 + q.val
  · rw [if_pos h]; exact if_pos (e.mpr h)
  · rw [if_neg h]; exact if_neg fun h' => h (e.mp h')

/-- What a block adds to row `r` of the numerators in column `d`. -/
def addNum (d : Fin 512) (r : ℕ) : EReal := ∑ j : Fin 5120, (if κ j = r then ex (ix2 0 j) else 0) * hv (ix2 j d)
/-- What a block adds to row `r` of the denominators. -/
def addDen (r : ℕ) : EReal := ∑ j : Fin 5120, if κ j = r then ex (ix2 0 j) else 0

variable (hw : k0_chk1 (BitVec.ofNat 32 l) (BitVec.ofNat 32 n)) (hκ : ∀ j, κ j ≤ 1024) (hf : l * 8 + n * 128 ≤ 1160) (s : Acc Ideal)
include hκ hf

theorem trip_num (k : Fin (k0_t1_loop (BitVec.ofNat 32 n)).trips) (r : Fin 1160) (d : Fin 512) :
    (trip hv ex (words κ) (BitVec.ofNat 32 l) (BitVec.ofNat 32 n) hw k s).1 (ix2 r d)
      = s.1 (ix2 r d) + if l * 8 + k.val * 128 ≤ r.val ∧ r.val < l * 8 + k.val * 128 + 128 then addNum hv ex κ d r.val else 0 := by
  have hk : k.val < n := k.isLt.trans_eq (trips_small (by omega))
  refine put_rows (n := 128) s.1 _ (off2_small k (by omega)) (k0_off2_inb _ _ hw k) _ (addNum hv ex κ d) r d fun q => ?_
  generalize VecWindow.window s.1 _ _ _ = x
  have e : k0_pay2 (F := Ideal) hv ex (words κ) (BitVec.ofNat 32 l) (BitVec.ofNat 32 n) k x (ix2 q d)
      = x (ix2 q d) + ∑ j : Fin 5120, k0_pay1 (F := Ideal) ex (words κ) (BitVec.ofNat 32 l) (BitVec.ofNat 32 n) k (ix2 q j) * hv (ix2 j d) := by
    unfold k0_pay2
    pointwise
  refine e.trans (congrArg (x (ix2 q d) + ·) (Finset.sum_congr rfl fun j _ => ?_))
  rw [pay1_at ex κ l n hκ hf]

theorem trip_den (k : Fin (k0_t1_loop (BitVec.ofNat 32 n)).trips) (r : Fin 1160) :
    (trip hv ex (words κ) (BitVec.ofNat 32 l) (BitVec.ofNat 32 n) hw k s).2 (ix2 r 0)
      = s.2 (ix2 r 0) + if l * 8 + k.val * 128 ≤ r.val ∧ r.val < l * 8 + k.val * 128 + 128 then addDen ex κ r.val else 0 := by
  have hk : k.val < n := k.isLt.trans_eq (trips_small (by omega))
  refine put_rows (n := 128) s.2 _ (off3_small k (by omega)) (k0_off3_inb _ _ hw k) _ (addDen ex κ) r 0 fun q => ?_
  generalize VecWindow.window s.2 _ _ _ = x
  have e : k0_pay3 (F := Ideal) ex (words κ) (BitVec.ofNat 32 l) (BitVec.ofNat 32 n) k x (ix2 q 0)
      = x (ix2 q 0) + ∑ j : Fin 5120, k0_pay1 (F := Ideal) ex (words κ) (BitVec.ofNat 32 l) (BitVec.ofNat 32 n) k (ix2 q j) := by
    unfold k0_pay3
    pointwise
  refine e.trans (congrArg (x (ix2 q 0) + ·) (Finset.sum_congr rfl fun j _ => ?_))
  exact pay1_at ex κ l n hκ hf k q j

omit hκ hf in
/-- Adding `g` on window `k`, after it was added on the windows below. -/
theorem add_window (y g : EReal) (k r : ℕ) :
    (y + if l * 8 ≤ r ∧ r < l * 8 + k * 128 then g else 0) + (if l * 8 + k * 128 ≤ r ∧ r < l * 8 + k * 128 + 128 then g else 0)
      = y + if l * 8 ≤ r ∧ r < l * 8 + (k + 1) * 128 then g else 0 := by
  by_cases h1 : l * 8 ≤ r ∧ r < l * 8 + k * 128
  · rw [if_pos h1, if_neg (by omega), if_pos (by omega), add_zero]
  · rw [if_neg h1, add_zero]
    by_cases h2 : l * 8 + k * 128 ≤ r ∧ r < l * 8 + k * 128 + 128
    · rw [if_pos h2, if_pos (by omega)]
    · rw [if_neg h2, if_neg (by omega)]

theorem sweep_at (k : ℕ) (hk : k ≤ n) (r : Fin 1160) :
    (∀ d, (sweep hv ex (words κ) (BitVec.ofNat 32 l) (BitVec.ofNat 32 n) hw s k).1 (ix2 r d)
      = s.1 (ix2 r d) + if l * 8 ≤ r.val ∧ r.val < l * 8 + k * 128 then addNum hv ex κ d r.val else 0)
    ∧ (sweep hv ex (words κ) (BitVec.ofNat 32 l) (BitVec.ofNat 32 n) hw s k).2 (ix2 r 0)
      = s.2 (ix2 r 0) + if l * 8 ≤ r.val ∧ r.val < l * 8 + k * 128 then addDen ex κ r.val else 0 := by
  induction k with
  | zero =>
    have h0 : ¬(l * 8 ≤ r.val ∧ r.val < l * 8 + 0 * 128) := by omega
    simp only [if_neg h0, add_zero]
    exact ⟨fun d => rfl, rfl⟩
  | succ k ih =>
    have ih := ih (by omega)
    have ht : k < (k0_t1_loop (BitVec.ofNat 32 n)).trips := by rw [trips_small (by omega)]; omega
    rw [sweep_succ hv ex (words κ) _ _ hw s ⟨k, ht⟩]
    refine ⟨fun d => ?_, ?_⟩
    · rw [trip_num hv ex κ l n hw hκ hf, ih.1 d]
      exact add_window l _ _ _ _
    · rw [trip_den hv ex κ l n hw hκ hf, ih.2]
      exact add_window l _ _ _ _

variable (hc : ∀ j, l * 8 ≤ κ j ∧ κ j < l * 8 + n * 128)
include hc

theorem block_num (r : Fin 1160) (d : Fin 512) :
    (block hv ex (words κ) (BitVec.ofNat 32 l) (BitVec.ofNat 32 n) hw s).1 (ix2 r d) = s.1 (ix2 r d) + addNum hv ex κ d r.val := by
  unfold block
  rw [trips_small (by omega), (sweep_at hv ex κ l n hw hκ hf s n le_rfl r).1 d]
  split
  · rfl
  · next h =>
    refine congrArg (s.1 (ix2 r d) + ·) (Finset.sum_eq_zero fun j _ => ?_).symm
    have hj := hc j
    rw [if_neg (by omega), zero_mul]

theorem block_den (r : Fin 1160) :
    (block hv ex (words κ) (BitVec.ofNat 32 l) (BitVec.ofNat 32 n) hw s).2 (ix2 r 0) = s.2 (ix2 r 0) + addDen ex κ r.val := by
  unfold block
  rw [trips_small (by omega), (sweep_at hv ex κ l n hw hκ hf s n le_rfl r).2]
  split
  · rfl
  · next h =>
    refine congrArg (s.2 (ix2 r 0) + ·) (Finset.sum_eq_zero fun j _ => ?_).symm
    have hj := hc j
    rw [if_neg (by omega)]

end Cert.KernelIdeal.Attn

end
-- ==== Proof.Spec.lean ====
/-
  THE MATHEMATICS. A row's unnormalised weight is `exp (tanh (x · W1ᵀ + b1) · W2ᵀ + b2)`. The result's entry for segment `s`
  is the sum, over the rows of the segment, of the row's entry weighted by its weight over the segment's sum of weights.
  Rows are numbered by naturals; past the end of the arrays a row and its weight are zero, so that sums over whole blocks are
  sums over the array. `div_sum` is the one identity that the two programs differ by: dividing the weighted sum once is
  dividing every weight.
-/
module

public import proofs.«01_k».proof.Proof.Ids.Words
public import Idealize.ShloMosaic.Lib.Pointwise

@[expose] public section

noncomputable section

namespace Cert.Spec

open Idealize.ShloMosaic Cert.Ids Finset

variable (h : (⟨2, ![100000, 512]⟩ : Shape).Idx → EReal) (b : Arr) (w1 : (⟨2, ![512, 512]⟩ : Shape).Idx → EReal)
  (b1 : (⟨1, ![512]⟩ : Shape).Idx → EReal) (w2 : (⟨2, ![1, 512]⟩ : Shape).Idx → EReal) (b2 : (⟨1, ![1]⟩ : Shape).Idx → EReal)

/-- Row `n`, zero past the end. -/
def row (n : ℕ) (d : Fin 512) : EReal := if hn : n < 100000 then h (ix2 ⟨n, hn⟩ d) else 0

/-- The score of a row `x`. -/
def score (x : Fin 512 → EReal) : EReal :=
  ∑ k, Ideal.tanh (∑ j, x j * w1 (ix2 k j) + b1 (ix1 k)) * w2 (ix2 0 k) + b2 (ix1 0)

/-- The weight of row `n`, zero past the end. -/
def wt (n : ℕ) : EReal := if n < 100000 then Ideal.exp (score w1 b1 w2 b2 (row h n)) else 0

variable (e x : ℕ → EReal) (s : ℕ)

/-- The sum of `e` over the first `N` rows, those of segment `s`. -/
def den (N : ℕ) : EReal := ∑ n ∈ range N, if key b n = s then e n else 0

/-- The sum of `e n * x n` over the first `N` rows, those of segment `s`. -/
def num (N : ℕ) : EReal := ∑ n ∈ range N, if key b n = s then e n * x n else 0

theorem row_of_lt {n : ℕ} (hn : n < 100000) (d : Fin 512) : row h n d = h (ix2 ⟨n, hn⟩ d) := dif_pos hn

theorem wt_of_lt {n : ℕ} (hn : n < 100000) : wt h w1 b1 w2 b2 n = Ideal.exp (score w1 b1 w2 b2 (row h n)) := if_pos hn

theorem wt_of_ge {n : ℕ} (hn : ¬n < 100000) : wt h w1 b1 w2 b2 n = 0 := if_neg hn

theorem exp_nonneg (x : EReal) : 0 ≤ Ideal.exp x := by
  induction x using EReal.rec with
  | bot => simp
  | top => simp
  | coe r => simpa using (Real.exp_pos r).le

theorem wt_nonneg (n : ℕ) : 0 ≤ wt h w1 b1 w2 b2 n := by
  unfold wt; split
  · exact exp_nonneg _
  · exact le_refl _

theorem den_nonneg (he : ∀ n, 0 ≤ e n) (N : ℕ) : 0 ≤ den b e s N :=
  sum_nonneg fun n _ => by split; exacts [he n, le_refl _]

/-- A sum over the blocks' rows of what vanishes past the end is the sum over the array's rows. -/
theorem sum_rows (f : ℕ → EReal) (hf : ∀ n, ¬n < 100000 → f n = 0) : ∑ n ∈ range 102400, f n = ∑ n : Fin 100000, f n.val := by
  rw [Fin.sum_univ_eq_sum_range f 100000]
  refine (sum_subset (range_subset_range.2 (by norm_num)) fun n _ hn => hf n ?_).symm
  simpa using hn

/-- Multiplication by a nonnegative number below infinity distributes over a sum. -/
theorem sum_mul_of_nonneg {ι : Type} (A : Finset ι) (f : ι → EReal) (q : EReal) (h0 : 0 ≤ q) (h1 : q ≠ ⊤) :
    (∑ i ∈ A, f i) * q = ∑ i ∈ A, f i * q := by
  classical
  induction A using Finset.induction_on with
  | empty => simp
  | insert a A ha ih => rw [sum_insert ha, sum_insert ha, EReal.right_distrib_of_nonneg_of_ne_top h0 h1, ih]

/-- Dividing the weighted sum is dividing each weight, for a positive divisor (which may be infinite). -/
theorem div_sum (D : EReal) (hD : 0 < D) (N : ℕ) :
    Ideal.div (num b e x s N) D = ∑ n ∈ range N, if key b n = s then x n * Ideal.div (e n) D else 0 := by
  have hd : ∀ y : EReal, Ideal.div y D = y * D⁻¹ := fun y => if_neg hD.ne'
  have h0 : 0 ≤ D⁻¹ := EReal.inv_nonneg_of_nonneg hD.le
  have h1 : D⁻¹ ≠ ⊤ := (EReal.inv_lt_top D).ne
  rw [hd, num, sum_mul_of_nonneg _ _ _ h0 h1]
  refine sum_congr rfl fun n _ => ?_
  split
  · rw [hd, mul_comm (e n) (x n), mul_assoc]
  · exact zero_mul _

end Cert.Spec

end
-- ==== Proof.KernelIdeal.Blocks.lean ====
/-
  THE BLOCKS OF A GRID POINT, at an index. Point `t` sees rows `5120 t, …, 5120 t + 5119` of the array (of which those past its
  end are masked), the ids of those rows, and the small operands whole. From these the body forms the masked rows and their
  weights, which over the reals are `Spec.row` and `Spec.wt`.
-/
module

public import proofs.«01_k».proof.Proof.KernelIdeal.Rows
public import proofs.«01_k».proof.Proof.Spec
public import Idealize.ShloMosaic.Lib.Pipeline.ValueKit

@[expose] public section

set_option maxRecDepth 16384

noncomputable section

namespace Cert.KernelIdeal.Attn

open Idealize.ShloMosaic Idealize.ShloMosaic.TcCoe
open Idealize.ShloMosaic.Pipeline (Dat Cfg Window)
open Cert.KernelIdeal.Gen Cert.KernelIdeal Facts Cert.Ids

section Reads

variable {F : FTy → Type} [FloatOps F] (m : (ℓ : Loc nD τ sig) → Buf (Elt F) ℓ) (hO : Ok m) (t : Fin (cfgM m hO).N)

theorem point_lt : t.val < 20 := lt_of_lt_of_eq t.isLt (show (cfgM m hO).N = 20 from N_0)

theorem coord_eq : (grid0.coords t 0).val = t.val := by
  have e0 : (grid0.coords t 0).val = t.val / 1 % 20 := Pipeline.Grid.coords_val (G := grid0) t 0 (by decide) rfl
  have := point_lt m hO t
  omega

theorem iblk1_apply (j : Fin 5120) :
    iblk m hO 0 1 t (ix3 0 0 j) = V m 0 main_v1 (ix3 ⟨t.val, point_lt m hO t⟩ 0 j) := by
  refine congrArg (V m 0 main_v1) (funext fun a => Fin.ext ?_)
  refine (Window.rect_emb_val ((cfgM m hO).win 1) t _ a).trans ?_
  match a with
  | ⟨0, _⟩ =>
    show (BitVec.ofNat 32 (grid0.coords t 0).val).toNat * 1 + 0 = t.val
    have := point_lt m hO t
    rw [coord_eq m hO t, BitVec.toNat_ofNat]; omega
  | ⟨1, _⟩ => rfl
  | ⟨2, _⟩ => show 0 * 5120 + j.val = j.val; omega

theorem iblk2_eq : iblk m hO 0 2 t = m (((0 : Dev nD) : Thread nD τ).loc main_arg2) := by
  refine Eq.trans ?_ (V_kept m 0 main_arg2 (by decide))
  funext y
  refine congrArg (V m 0 main_arg2) (funext fun a => Fin.ext ?_)
  exact Window.rect_emb_val_of_index_zero ((cfgM m hO).win 2) t a (by match a with | ⟨0, _⟩ => rfl | ⟨1, _⟩ => rfl) y

theorem iblk3_eq : iblk m hO 0 3 t = V m 0 main_v18 := by
  funext y
  refine congrArg (V m 0 main_v18) (funext fun a => Fin.ext ?_)
  exact Window.rect_emb_val_of_index_zero ((cfgM m hO).win 3) t a (by match a with | ⟨0, _⟩ => rfl | ⟨1, _⟩ => rfl) y

theorem iblk4_eq : iblk m hO 0 4 t = m (((0 : Dev nD) : Thread nD τ).loc main_arg4) := by
  refine Eq.trans ?_ (V_kept m 0 main_arg4 (by decide))
  funext y
  refine congrArg (V m 0 main_arg4) (funext fun a => Fin.ext ?_)
  exact Window.rect_emb_val_of_index_zero ((cfgM m hO).win 4) t a (by match a with | ⟨0, _⟩ => rfl | ⟨1, _⟩ => rfl) y

theorem iblk5_eq : iblk m hO 0 5 t = V m 0 main_v19 := by
  funext y
  refine congrArg (V m 0 main_v19) (funext fun a => Fin.ext ?_)
  exact Window.rect_emb_val_of_index_zero ((cfgM m hO).win 5) t a (by match a with | ⟨0, _⟩ => rfl | ⟨1, _⟩ => rfl) y

/-- The ids of a block. -/
theorem pay12_eq : k0_pay12 (F := F) (iblk m hO 0 1 t) = words fun j => key (ids m) (5120 * t.val + j.val) := by
  funext i
  obtain ⟨j, rfl⟩ : ∃ j : Fin 5120, i = ix2 0 j := ⟨i 1, funext fun a => by
    match a with
    | ⟨0, _⟩ => exact Subsingleton.elim (α := Fin 1) _ _
    | ⟨1, _⟩ => rfl⟩
  have e : k0_pay12 (F := F) (iblk m hO 0 1 t) (ix2 0 j) = iblk m hO 0 1 t (ix3 0 0 j) := by
    unfold k0_pay12
    exact shapeCast_apply _ _ (ix2 0 j) (ix3 0 0 j) (by
      rw [Shape.rowMajor_val_two, Shape.rowMajor_val_three]
      show (0 * 1 + 0) * 5120 + j.val = 0 * 5120 + j.val
      omega)
  have ht := point_lt m hO t
  refine e.trans ((iblk1_apply m hO t j).trans ?_)
  rw [V_ids]
  refine (shapeCast_apply _ _ (ix3 ⟨t.val, ht⟩ 0 j) (ix1 ⟨5120 * t.val + j.val, by omega⟩) ?_).trans (padIds_apply (ids m) _)
  rw [Shape.rowMajor_val_one, Shape.rowMajor_val_three]
  show 5120 * t.val + j.val = (t.val * 1 + 0) * 5120 + j.val
  omega

theorem b1_apply (k : Fin 512) : iblk m hO 0 3 t (ix2 k 0) = m (((0 : Dev nD) : Thread nD τ).loc main_arg3) (ix1 k) := by
  refine (congrFun (iblk3_eq m hO t) _).trans ?_
  rw [V_b1]
  refine shapeCast_apply _ _ (ix2 k 0) (ix1 k) ?_
  rw [Shape.rowMajor_val_one, Shape.rowMajor_val_two]
  show k.val = k.val * 1 + 0
  omega

theorem b2_apply : iblk m hO 0 5 t (ix2 0 0) = m (((0 : Dev nD) : Thread nD τ).loc main_arg5) (ix1 0) := by
  refine (congrFun (iblk5_eq m hO t) _).trans ?_
  rw [V_b2]
  refine shapeCast_apply _ _ (ix2 0 0) (ix1 0) ?_
  rw [Shape.rowMajor_val_one, Shape.rowMajor_val_two]
  rfl

/-- A row of window 0's buffer that lies inside the array. -/
theorem hblk_apply (j : Fin 5120) (d : Fin 512) (h : 5120 * t.val + j.val < 100000) :
    hblk m hO 0 t (ix2 j d) = m (((0 : Dev nD) : Thread nD τ).loc main_arg0) (ix2 ⟨5120 * t.val + j.val, h⟩ d) := by
  have ht := point_lt m hO t
  have e0 : cc0_transform_0 (grid0.coords t) 0 = t.val := by
    show (BitVec.ofNat 32 (grid0.coords t 0).val).toNat = t.val
    rw [coord_eq m hO t, BitVec.toNat_ofNat]; omega
  have hm : ((cfgM m hO).win 0).moved (grid0.coords t) (ix2 j d) = true := (Window.moved_iff _ _ _).mpr fun ax => by
    match ax with
    | ⟨0, _⟩ =>
      change j.val < (Pipeline.Clip.of (cc0_transform_0 (grid0.coords t) 0) 5120 100000).extent 5120
      rw [e0]
      unfold Pipeline.Clip.of; split
      · exact j.isLt
      · change j.val < 100000 - t.val * 5120
        omega
    | ⟨1, _⟩ => exact d.isLt
  refine Eq.trans ?_ (congrFun (V_kept m 0 main_arg0 (by decide)) _)
  refine (dif_pos hm).trans ?_
  refine congrArg (V m 0 main_arg0) (funext fun a => Fin.ext ?_)
  refine (Window.rect_emb_val ((cfgM m hO).win 0) t _ a).trans ?_
  match a with
  | ⟨0, _⟩ =>
    show cc0_transform_0 (grid0.coords t) 0 * 5120 + j.val = 5120 * t.val + j.val
    rw [e0]; omega
  | ⟨1, _⟩ => show 0 * 512 + d.val = d.val; omega

end Reads

variable (m : (ℓ : Loc nD τ sig) → Buf (Elt Ideal) ℓ) (hO : Ok m) (t : Fin (cfgM m hO).N)

/-- The masked rows of a block. -/
theorem rows_apply (j : Fin 5120) (d : Fin 512) :
    k0_pay10 (F := Ideal) (grid0.coords t) (hblk m hO 0 t) (ix2 j d) = Spec.row (m (((0 : Dev nD) : Thread nD τ).loc main_arg0)) (5120 * t.val + j.val) d := by
  refine (pay10_apply _ _ _).trans ?_
  rw [coord_eq m hO t]
  by_cases h : 5120 * t.val + j.val < 100000
  · rw [Spec.row_of_lt _ h]
    exact (if_pos h).trans (hblk_apply m hO t j d h)
  · refine (if_neg h).trans (Eq.trans ?_ (dif_neg h).symm)
    simp [Scalar.ofBits]

/-- The weights the kernel computes for a run of the module. -/
abbrev weight (n : ℕ) : EReal :=
  Spec.wt (m (((0 : Dev nD) : Thread nD τ).loc main_arg0)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) n

/-- The weights of a block's rows. -/
theorem weights_apply (j : Fin 5120) :
    k0_pay11 (F := Ideal) (grid0.coords t) (hblk m hO 0 t) (iblk m hO 0 2 t) (iblk m hO 0 3 t) (iblk m hO 0 4 t) (iblk m hO 0 5 t) (ix2 0 j)
      = weight m (5120 * t.val + j.val) := by
  have e : ∀ (w1 : Vec Ideal S512x512 .f32) (b1 : Vec Ideal S512x1 .f32) (w2 : Vec Ideal S1x512 .f32) (b2 : Vec Ideal S1x1 .f32),
      k0_pay11 (F := Ideal) (grid0.coords t) (hblk m hO 0 t) w1 b1 w2 b2 (ix2 0 j)
        = Scalar.select (IntOp.cmpi .slt (BitVec.ofNat 32 j.val) (Scalar.subi 100000#32 (Scalar.muli (BitVec.ofNat 32 (grid0.coords t 0).val) 5120#32)))
            (Ideal.exp (∑ k, w2 (ix2 0 k) * Ideal.tanh (∑ x, w1 (ix2 k x) * k0_pay10 (F := Ideal) (grid0.coords t) (hblk m hO 0 t) (ix2 j x) + b1 (ix2 k 0)) + b2 (ix2 0 0))) 0 := by
    intro w1 b1 w2 b2
    unfold k0_pay11
    pointwise
  refine (e _ _ _ _).trans ?_
  have hi := inside_iff (point_lt m hO t) j.isLt
  rw [coord_eq m hO t]
  by_cases h : 5120 * t.val + j.val < 100000
  · refine (if_pos (hi.mpr h)).trans (Eq.trans ?_ (Spec.wt_of_lt _ _ _ _ _ h).symm)
    unfold Spec.score
    refine congrArg Ideal.exp (congrArg₂ (· + ·) (Finset.sum_congr rfl fun k _ => ?_) (b2_apply m hO t))
    refine (mul_comm _ _).trans (congrArg₂ (· * ·) (congrArg Ideal.tanh (congrArg₂ (· + ·) (Finset.sum_congr rfl fun x _ => ?_) (b1_apply m hO t k))) (congrFun (iblk4_eq m hO t) _))
    exact (mul_comm _ _).trans (congrArg₂ (· * ·) (rows_apply m hO t j x) (congrFun (iblk2_eq m hO t) _))
  · exact (if_neg fun h' => h (hi.mp h')).trans (Spec.wt_of_ge _ _ _ _ _ h).symm

end Cert.KernelIdeal.Attn

end
-- ==== Proof.KernelIdeal.Value.lean ====
/-
  THE KERNEL'S RESULT OVER THE REALS. After point `t` the numerators hold, row by row, the weighted sums over the first
  `5120 (t + 1)` rows of the array by id, and the denominators the sums of the weights; the last point writes their quotient.
-/
module

public import proofs.«01_k».proof.Proof.KernelIdeal.Blocks

@[expose] public section

set_option maxRecDepth 16384

noncomputable section

namespace Cert.KernelIdeal.Attn

open Idealize.ShloMosaic Idealize.ShloMosaic.TcCoe Idealize.SL.Sem
open Idealize.ShloMosaic.Pipeline (Dat Cfg Window)
open Cert.KernelIdeal.Gen Cert.KernelIdeal Facts Cert.Ids

/-- A block's fold depends on its words by value only. -/
theorem block_congr {F : FTy → Type} [FloatOps F] (hv : Vec F S5120x512 .f32) (ex : FVec F S1x5120 .f32) {i i' : IVec S1x5120 32} (hi : i = i') {lo lo' nw nw' : Elt F .i32}
    (hl : lo = lo') (hn : nw = nw') (hw : k0_chk1 lo nw) (hw' : k0_chk1 lo' nw') (s : Acc F) : block hv ex i lo nw hw s = block hv ex i' lo' nw' hw' s := by
  subst hi hl hn; rfl

variable (m : (ℓ : Loc nD τ sig) → Buf (Elt Ideal) ℓ) (ρ : Dev nD → PrngReg) (hO : Ok m) (hb : Sorted (ids m))

/-- Column `d` of the array's rows. -/
abbrev entry (d : Fin 512) (n : ℕ) : EReal := Spec.row (m (((0 : Dev nD) : Thread nD τ).loc main_arg0)) n d

theorem step_eq (t : Fin (cfgM m hO).N) (s : Acc Ideal) :
    step m hO (hyps m hO hb) 0 t s
      = block (k0_pay10 (grid0.coords t) (hblk m hO 0 t))
          (k0_pay11 (grid0.coords t) (hblk m hO 0 t) (iblk m hO 0 2 t) (iblk m hO 0 3 t) (iblk m hO 0 4 t) (iblk m hO 0 5 t))
          (words fun j => key (ids m) (5120 * t.val + j.val)) (BitVec.ofNat 32 (lo (ids m) t.val)) (BitVec.ofNat 32 (nw (ids m) t.val))
          (chk_small (windows_fit hb t.val)) s := by
  have e := coord_eq m hO t
  unfold step point
  exact block_congr _ _ (pay12_eq m hO t) ((word_lo_eq m hb 0 (grid0.coords t)).trans (congrArg (fun n => BitVec.ofNat 32 (lo (ids m) n)) e))
    ((word_nw_eq m hb 0 (grid0.coords t)).trans (congrArg (fun n => BitVec.ofNat 32 (nw (ids m) n)) e)) _ _ s

theorem step_num (t : Fin (cfgM m hO).N) (s : Acc Ideal) (r : Fin 1160) (d : Fin 512) :
    (step m hO (hyps m hO hb) 0 t s).1 (ix2 r d) = s.1 (ix2 r d)
      + ∑ j ∈ Finset.range 5120, if key (ids m) (5120 * t.val + j) = r.val then weight m (5120 * t.val + j) * entry m d (5120 * t.val + j) else 0 := by
  rw [step_eq m hO hb t s, block_num _ _ _ _ _ _ (fun j => hb.le _) (windows_fit hb t.val) s (fun j => windows_cover hb t.val j.val j.isLt)]
  refine congrArg (s.1 (ix2 r d) + ·) ?_
  rw [← Fin.sum_univ_eq_sum_range]
  refine Finset.sum_congr rfl fun j _ => ?_
  rw [weights_apply m hO t j, rows_apply m hO t j d]
  split
  · rfl
  · exact zero_mul _

theorem step_den (t : Fin (cfgM m hO).N) (s : Acc Ideal) (r : Fin 1160) :
    (step m hO (hyps m hO hb) 0 t s).2 (ix2 r 0) = s.2 (ix2 r 0)
      + ∑ j ∈ Finset.range 5120, if key (ids m) (5120 * t.val + j) = r.val then weight m (5120 * t.val + j) else 0 := by
  rw [step_eq m hO hb t s, block_den _ _ _ _ _ _ (fun j => hb.le _) (windows_fit hb t.val) s (fun j => windows_cover hb t.val j.val j.isLt)]
  refine congrArg (s.2 (ix2 r 0) + ·) ?_
  rw [← Fin.sum_univ_eq_sum_range]
  refine Finset.sum_congr rfl fun j _ => ?_
  rw [weights_apply m hO t j]

/-- The scratch after the body at position `n`. -/
theorem accAt_apply (n : ℕ) (hn : n < (cfgM m hO).N) (r : Fin 1160) :
    (∀ d, (accAt m hO (hyps m hO hb) 0 n hn).1 (ix2 r d) = Spec.num (ids m) (weight m) (entry m d) r.val (5120 * (n + 1)))
    ∧ (accAt m hO (hyps m hO hb) 0 n hn).2 (ix2 r 0) = Spec.den (ids m) (weight m) r.val (5120 * (n + 1)) := by
  induction n with
  | zero =>
    have e : accAt m hO (hyps m hO hb) 0 0 hn = step m hO (hyps m hO hb) 0 ⟨0, hn⟩ zeroAcc := rfl
    rw [e]
    refine ⟨fun d => ?_, ?_⟩
    · have z : (zeroAcc (F := Ideal)).1 (ix2 r d) = 0 := by
        show k0_pay8 (F := Ideal) (ix2 r d) = 0
        unfold k0_pay8
        pointwise
      rw [step_num m hO hb ⟨0, hn⟩ zeroAcc r d, z, zero_add]
      simp only [Nat.mul_zero, Nat.zero_add, Nat.mul_one]
      rfl
    · have z : (zeroAcc (F := Ideal)).2 (ix2 r 0) = 0 := by
        show k0_pay9 (F := Ideal) (ix2 r 0) = 0
        unfold k0_pay9
        pointwise
      rw [step_den m hO hb ⟨0, hn⟩ zeroAcc r, z, zero_add]
      simp only [Nat.mul_zero, Nat.zero_add, Nat.mul_one]
      rfl
  | succ n ih =>
    have ih := ih (Nat.lt_of_succ_lt hn)
    have e : accAt m hO (hyps m hO hb) 0 (n + 1) hn = step m hO (hyps m hO hb) 0 ⟨n + 1, hn⟩ (accAt m hO (hyps m hO hb) 0 n (Nat.lt_of_succ_lt hn)) := rfl
    have e' : 5120 * (n + 1 + 1) = 5120 * (n + 1) + 5120 := by ring
    rw [e, e']
    refine ⟨fun d => ?_, ?_⟩
    · rw [step_num m hO hb ⟨n + 1, hn⟩ _ r d, ih.1 d]
      unfold Spec.num
      rw [Finset.sum_range_add]
    · rw [step_den m hO hb ⟨n + 1, hn⟩ _ r, ih.2]
      unfold Spec.den
      rw [Finset.sum_range_add]

theorem quot_apply (s : Acc Ideal) (r : Fin 1024) (d : Fin 512) :
    quot s (ix2 r d) = Ideal.div (s.1 (ix2 ⟨r.val, by omega⟩ d)) (s.2 (ix2 ⟨r.val, by omega⟩ 0) + Ideal.ofBits .f32 0x24E69595#32) := by
  have e : ∀ (x : Vec Ideal S1024x512 .f32) (y : Vec Ideal S1024x1 .f32), k0_pay7 (F := Ideal) x y (ix2 r d)
      = Ideal.div (x (ix2 r d)) (y (ix2 r 0) + Ideal.ofBits .f32 0x24E69595#32) := by
    intro x y
    unfold k0_pay7
    pointwise
  refine (e _ _).trans (congrArg₂ (fun u v => Ideal.div u (v + Ideal.ofBits .f32 0x24E69595#32)) ?_ ?_)
  · refine congrArg s.1 (funext fun a => Fin.ext ?_)
    match a with
    | ⟨0, _⟩ => show 0 + 1 * r.val = r.val; omega
    | ⟨1, _⟩ => show 0 + 1 * d.val = d.val; omega
  · refine congrArg s.2 (funext fun a => Fin.ext ?_)
    match a with
    | ⟨0, _⟩ => show 0 + 1 * r.val = r.val; omega
    | ⟨1, _⟩ => rfl

theorem last_lt : 19 < (cfgM m hO).N := by rw [show (cfgM m hO).N = 20 from N_0]; decide

/-- The last point. -/
def lastPt : Fin (cfgM m hO).N := ⟨19, last_lt m hO⟩

/-- The result array ends holding the quotient the last point stores. -/
theorem arrAt_out : (dats m hO (hyps m hO hb) 0 0).arrAt 6 (cfgM m hO).N = quot (accAt m hO (hyps m hO hb) 0 19 (last_lt m hO)) := by
  refine (dats m hO (hyps m hO hb) 0 0).arrAt_eq_of_after_last 6 (lastPt m hO) ⟨(flush0_6 (adm m hO) _).mpr rfl, fun t ht => ?_, fun a => ?_⟩ _ fun j => ?_
  · have h := (flush0_6 (adm m hO) t).mp ht
    have := point_lt m hO t
    exact Fin.ext (by show t.val = 19; omega)
  · match a with
    | ⟨0, _⟩ => exact ⟨rfl, rfl⟩
    | ⟨1, _⟩ => exact ⟨rfl, rfl⟩
  · rw [after0_6]
    rfl

theorem out_apply (r : Fin 1024) (d : Fin 512) :
    quot (accAt m hO (hyps m hO hb) 0 19 (last_lt m hO)) (ix2 r d)
      = Ideal.div (Spec.num (ids m) (weight m) (entry m d) r.val 102400) (Spec.den (ids m) (weight m) r.val 102400 + Ideal.ofBits .f32 0x24E69595#32) := by
  rw [quot_apply, (accAt_apply m hO hb 19 _ _).1 d, (accAt_apply m hO hb 19 _ _).2]

/-- The run: the result array at that quotient. -/
theorem run_value : θ_run defs (onTc (τ := τ) (main (F := Ideal))) ⟨m, fun _ => 0, ρ⟩ (fun r =>
    r.2.mem (((0 : Dev nD) : Thread nD τ).loc main_v20) = quot (accAt m hO (hyps m hO hb) 0 19 (last_lt m hO))) :=
  (θ_run defs _ _).mono (fun _ h => ((h 0).1 6).trans (arrAt_out m hO hb)) (run_main m ρ hO (hyps m hO hb))

end Cert.KernelIdeal.Attn

end
-- ==== Proof.ReferenceIdeal.Value.lean ====
/-
  THE REFERENCE'S RESULT AT AN ENTRY, over the extended reals: a scatter of rows into segments is, at a segment, the sum of the
  rows whose id is the segment's number; a gather by ids reads the id's entry; the rest is entry by entry.
-/
module

public import proofs.«01_k».proof.Proof.ReferenceIdeal.Run
public import proofs.«01_k».proof.Proof.Spec
public import Idealize.ShloMosaic.Lib.Routing.Ops
public import Idealize.ShloMosaic.Lib.Routing.OpsPair

@[expose] public section

noncomputable section

namespace Cert.ReferenceIdeal.Attn

open Cert.ReferenceIdeal Cert.ReferenceIdeal.Gen
open Idealize.ShloMosaic Cert.Ids

/-! ## Where an update lands -/

theorem lands_rows (idx : IVec S100000x1 32) (n : Fin 100000) (q : Fin 512) (s : Fin 1024) (d : Fin 512) :
    scatter_S1024x512_S100000x1_S100000x512_1_0_0_1.resultIdx? (ix2 n q) idx = some (ix2 s d) ↔ (idx (ix2 n 0)).toInt = s.val ∧ q = d := by
  refine (Routing.resultIdx?_ix2 _ _ idx s d).trans ?_
  have h0 : scatter_S1024x512_S100000x1_S100000x512_1_0_0_1.start (ix2 n q) idx 0 = (idx (ix2 n 0)).toInt := by
    unfold ScatterDims.start
    rw [dif_pos (by decide)]
    refine congrArg (fun i => (idx i).toInt) (funext fun a => Fin.ext ?_)
    fin_cases a <;> rfl
  have h1 : scatter_S1024x512_S100000x1_S100000x512_1_0_0_1.start (ix2 n q) idx 1 = 0 := rfl
  have h2 : scatter_S1024x512_S100000x1_S100000x512_1_0_0_1.window (ix2 n q) 0 = 0 := rfl
  have h3 : scatter_S1024x512_S100000x1_S100000x512_1_0_0_1.window (ix2 n q) 1 = q.val := rfl
  rw [h0, h1, h2, h3, Fin.ext_iff]
  omega

theorem lands_col (idx : IVec S100000x1 32) (n : Fin 100000) (q : Fin 1) (s : Fin 1024) (d : Fin 1) :
    scatter_S1024x1_S100000x1_S100000x1_1_0_0_1.resultIdx? (ix2 n q) idx = some (ix2 s d) ↔ (idx (ix2 n 0)).toInt = s.val ∧ q = d := by
  refine (Routing.resultIdx?_ix2 _ _ idx s d).trans ?_
  have h0 : scatter_S1024x1_S100000x1_S100000x1_1_0_0_1.start (ix2 n q) idx 0 = (idx (ix2 n 0)).toInt := by
    unfold ScatterDims.start
    rw [dif_pos (by decide)]
    refine congrArg (fun i => (idx i).toInt) (funext fun a => Fin.ext ?_)
    fin_cases a <;> rfl
  have h1 : scatter_S1024x1_S100000x1_S100000x1_1_0_0_1.start (ix2 n q) idx 1 = 0 := rfl
  have h2 : scatter_S1024x1_S100000x1_S100000x1_1_0_0_1.window (ix2 n q) 0 = 0 := rfl
  have h3 : scatter_S1024x1_S100000x1_S100000x1_1_0_0_1.window (ix2 n q) 1 = q.val := rfl
  rw [h0, h1, h2, h3, Fin.ext_iff]
  omega

/-- A scatter-add whose update `(n, q)` lands at `(s, d)` when `n`'s id is `s` and `q = d`, read at `(s, d)`. -/
theorem sum_landing {C : ℕ} (P : (⟨2, ![100000, C]⟩ : Shape).Idx → Prop) [DecidablePred P] (Q : Fin 100000 → Prop) [DecidablePred Q] (d : Fin C)
    (hP : ∀ n q, P (ix2 n q) ↔ Q n ∧ q = d) (u : (⟨2, ![100000, C]⟩ : Shape).Idx → EReal) :
    ∑ j with P j, u j = ∑ n, if Q n then u (ix2 n d) else 0 := by
  rw [Finset.sum_filter, sum_idx2]
  refine Finset.sum_congr rfl fun n _ => ?_
  simp only [hP]
  by_cases hQ : Q n
  · simp [hQ]
  · simp [hQ]

/-! ## The ids -/

theorem col_apply (b : Vec Ideal S100000 .i32) (n : Fin 100000) (z : Fin 1) : col (F := Ideal) b (ix2 n z) = b (ix1 n) := by
  unfold col
  pointwise

variable {b : Arr} (hb : Sorted b)
include hb

theorem id_eq (n : Fin 100000) : b (ix1 n) = BitVec.ofNat 32 (key b n.val) := by
  refine BitVec.eq_of_toNat_eq ?_
  have h1 : key b n.val = (b (ix1 n)).toNat := dif_pos n.isLt
  have h2 := hb.lt n.val n.isLt
  rw [BitVec.toNat_ofNat, Nat.mod_eq_of_lt (by omega), h1]

theorem id_toInt (n : Fin 100000) : (b (ix1 n)).toInt = (key b n.val : ℤ) := by
  have h1 : key b n.val = (b (ix1 n)).toNat := dif_pos n.isLt
  have h2 := hb.lt n.val n.isLt
  rw [WordCmp.toInt_eq_toNat_of_lt_half (by omega), h1]

theorem wrapped_apply (n : Fin 100000) : wrapped (F := Ideal) b (ix1 n) = b (ix1 n) := by
  have h1 : key b n.val = (b (ix1 n)).toNat := dif_pos n.isLt
  have h2 := hb.lt n.val n.isLt
  have e : wrapped (F := Ideal) b (ix1 n) = Scalar.select (IntOp.cmpi .slt (b (ix1 n)) 0#32) (IntOp.addi (b (ix1 n)) 1024#32) (b (ix1 n)) := by
    unfold wrapped
    pointwise
  rw [e]
  exact Routing.wrap_of_lt _ _ (by omega)

/-! ## The stages -/

theorem segSum_apply (e : Vec Ideal S100000x1 .f32) (s : Fin 1024) :
    segSum (F := Ideal) b e (ix2 s 0) = ∑ n : Fin 100000, if key b n.val = s.val then e (ix2 n 0) else 0 := by
  unfold segSum Host.scatterAdd
  rw [Ideal.hostScatterAdd_def]
  unfold Ideal.hostScatterAdd
  rw [sum_landing _ (fun n => key b n.val = s.val) 0 fun n q => ?_]
  · pointwise
  · rw [lands_col, col_apply, id_toInt hb, Nat.cast_inj]

theorem weights_apply (e : Vec Ideal S100000x1 .f32) (n : Fin 100000) :
    weights (F := Ideal) b e (ix2 n 0)
      = Ideal.div (e (ix2 n 0)) (segSum (F := Ideal) b e (ix2 ⟨key b n.val, hb.lt n.val n.isLt⟩ 0) + Ideal.ofBits .f32 0x24E69595#32) := by
  have g : Host.gather gather_S1024x1_S100000x1_S100000x1_1_0_n_n_0_1_11 (segSum (F := Ideal) b e) (col (F := Ideal) (wrapped (F := Ideal) b)) (ix2 n 0)
      = segSum (F := Ideal) b e (ix2 ⟨key b n.val, hb.lt n.val n.isLt⟩ 0) :=
    Routing.gather_row _ rfl rfl rfl rfl rfl _ _ n 0 ⟨key b n.val, hb.lt n.val n.isLt⟩
      (((col_apply _ n 0).trans (wrapped_apply hb n)).trans (id_eq hb n)) (by norm_num)
  unfold weights
  pointwise
  rw [g]

theorem pooled_apply (h : Vec Ideal S100000x512 .f32) (w : Vec Ideal S100000x1 .f32) (s : Fin 1024) (d : Fin 512) :
    pooled (F := Ideal) h b w (ix2 s d) = ∑ n : Fin 100000, if key b n.val = s.val then h (ix2 n d) * w (ix2 n 0) else 0 := by
  unfold pooled Host.scatterAdd
  rw [Ideal.hostScatterAdd_def]
  unfold Ideal.hostScatterAdd
  rw [sum_landing _ (fun n => key b n.val = s.val) d fun n q => ?_]
  · pointwise
  · rw [lands_rows, col_apply, id_toInt hb, Nat.cast_inj]

omit hb in
theorem ex_apply (h : Vec Ideal S100000x512 .f32) (w1 : Vec Ideal S512x512 .f32) (b1 : Vec Ideal S512 .f32) (w2 : Vec Ideal S1x512 .f32) (b2 : Vec Ideal S1 .f32)
    (n : Fin 100000) : ex (F := Ideal) h w1 b1 w2 b2 (ix2 n 0) = Spec.wt h w1 b1 w2 b2 n.val := by
  rw [Spec.wt_of_lt _ _ _ _ _ n.isLt]
  unfold Spec.score
  simp only [Spec.row_of_lt h n.isLt]
  unfold ex
  pointwise

/-- The reference's result, entry by entry. -/
theorem out_apply (h : Vec Ideal S100000x512 .f32) (w1 : Vec Ideal S512x512 .f32) (b1 : Vec Ideal S512 .f32) (w2 : Vec Ideal S1x512 .f32) (b2 : Vec Ideal S1 .f32)
    (s : Fin 1024) (d : Fin 512) :
    out (F := Ideal) h b w1 b1 w2 b2 (ix2 s d)
      = Ideal.div (Spec.num b (Spec.wt h w1 b1 w2 b2) (fun n => Spec.row h n d) s.val 102400)
          (Spec.den b (Spec.wt h w1 b1 w2 b2) s.val 102400 + Ideal.ofBits .f32 0x24E69595#32) := by
  have hden : ∀ r : Fin 1024, segSum (F := Ideal) b (ex (F := Ideal) h w1 b1 w2 b2) (ix2 r 0) = Spec.den b (Spec.wt h w1 b1 w2 b2) r.val 102400 := fun r => by
    rw [segSum_apply hb, Spec.den, Spec.sum_rows _ fun n hn => by rw [Spec.wt_of_ge _ _ _ _ _ hn, ite_self]]
    refine Finset.sum_congr rfl fun n _ => ?_
    rw [ex_apply]
  have hc : (0 : EReal) < Ideal.ofBits .f32 0x24E69595#32 := by
    simp [Ideal.ofBits, Ideal.ieee, -EReal.coe_mul]
  have hD : (0 : EReal) < Spec.den b (Spec.wt h w1 b1 w2 b2) s.val 102400 + Ideal.ofBits .f32 0x24E69595#32 :=
    lt_of_lt_of_le hc (le_add_of_nonneg_left (Spec.den_nonneg _ _ _ (Spec.wt_nonneg h w1 b1 w2 b2) _))
  rw [Spec.div_sum _ _ _ _ _ hD, Spec.sum_rows _ fun n hn => by
    rw [show Spec.row h n d = 0 from dif_neg hn, zero_mul, ite_self]]
  unfold out
  rw [pooled_apply hb]
  refine Finset.sum_congr rfl fun n _ => ?_
  by_cases hk : key b n.val = s.val
  · have e : (⟨key b n.val, hb.lt n.val n.isLt⟩ : Fin 1024) = s := Fin.ext hk
    rw [if_pos hk, if_pos hk, weights_apply hb, e, hden, ex_apply, Spec.row_of_lt h n.isLt]
  · rw [if_neg hk, if_neg hk]

end Cert.ReferenceIdeal.Attn

end
-- ==== Proof.Algebraic.lean ====
/-
  KERNEL AND REFERENCE AGREE OVER THE REALS. Both results are, entry by entry, the weighted sum of a segment's rows over the sum
  of the segment's weights plus the small constant: the kernel divides the accumulated sum once (`KernelIdeal/Value`), the
  reference divides every weight before it sums (`ReferenceIdeal/Value`).
-/
module

public import proofs.«01_k».proof.Defs
public import proofs.«01_k».proof.Proof.KernelIdeal.Value
public import proofs.«01_k».proof.Proof.ReferenceIdeal.Value

@[expose] public section

noncomputable section

namespace Cert.Agree

open Idealize.ShloMosaic Idealize.ShloMosaic.TcCoe Idealize.SL.Sem

/-- The two results are the same array. -/
theorem same (m : (ℓ : Loc KernelIdeal.nD KernelIdeal.τ KernelIdeal.sig) → Buf (Elt Ideal) ℓ) (hO : KernelIdeal.Attn.Ok m) (hb : Ids.Sorted (KernelIdeal.Attn.ids m)) :
    ReferenceIdeal.Attn.out (F := Ideal) (m (((0 : Dev KernelIdeal.nD) : Thread KernelIdeal.nD KernelIdeal.τ).loc KernelIdeal.main_arg0)) (KernelIdeal.Attn.ids m)
        (m (((0 : Dev KernelIdeal.nD) : Thread KernelIdeal.nD KernelIdeal.τ).loc KernelIdeal.main_arg2)) (m (((0 : Dev KernelIdeal.nD) : Thread KernelIdeal.nD KernelIdeal.τ).loc KernelIdeal.main_arg3))
        (m (((0 : Dev KernelIdeal.nD) : Thread KernelIdeal.nD KernelIdeal.τ).loc KernelIdeal.main_arg4)) (m (((0 : Dev KernelIdeal.nD) : Thread KernelIdeal.nD KernelIdeal.τ).loc KernelIdeal.main_arg5))
      = KernelIdeal.Attn.quot (KernelIdeal.Attn.accAt m hO (KernelIdeal.Attn.hyps m hO hb) 0 19 (KernelIdeal.Attn.last_lt m hO)) := by
  funext i
  obtain ⟨r, d, rfl⟩ : ∃ (r : Fin 1024) (d : Fin 512), i = ix2 r d := ⟨i 0, i 1, funext fun a => by
    match a with
    | ⟨0, _⟩ => rfl
    | ⟨1, _⟩ => rfl⟩
  exact (ReferenceIdeal.Attn.out_apply hb _ _ _ _ _ r d).trans (KernelIdeal.Attn.out_apply m hO hb r d).symm

theorem algebraic : Cert.algebraic_KernelIdeal_ReferenceIdeal := by
  intro m g m' g' hpre hargs
  have hb : Ids.Sorted (KernelIdeal.Attn.ids m) := Ids.of_pre (hpre 0)
  refine ⟨fun _ => KernelIdeal.Attn.quot (KernelIdeal.Attn.accAt m trivial (KernelIdeal.Attn.hyps m trivial hb) 0 19 (KernelIdeal.Attn.last_lt m trivial)), ?_, ?_⟩
  · refine (θ_run _ _ _).mono ?_ (θ_run_and (KernelIdeal.Attn.run_value m g trivial hb) (KernelIdeal.Attn.frame m g trivial (KernelIdeal.Attn.hyps m trivial hb)))
    rintro r ⟨hv, hf⟩ c
    obtain rfl : c = 0 := Subsingleton.elim _ _
    exact ⟨hv, hf.1 0⟩
  · refine (θ_run _ _ _).mono ?_ (ReferenceIdeal.Attn.run_main m' g')
    intro r h c
    obtain ⟨hv, hf⟩ := h.1 c
    refine ⟨hv.trans ?_, hf⟩
    obtain rfl : c = 0 := Subsingleton.elim _ _
    obtain ⟨h0, h1, h2, h3, h4, h5⟩ := hargs 0
    refine Eq.trans ?_ (same m trivial hb)
    exact congr (congr (congr (congr (congr (congrArg (ReferenceIdeal.Attn.out (F := Ideal)) h0) h1) h2) h3) h4) h5

end Cert.Agree

end
-- ==== Proof.lean ====
/-
  The proof of `Cert.Claim`: each claim's own module is under Proof/.
-/
module

public import proofs.«01_k».proof.Defs
public import proofs.«01_k».proof.Proof.Kernel.Frame
public import proofs.«01_k».proof.Proof.ReferenceIdeal.Run
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_sorted_ids.Gen.facts,
    Cert.Kernel.Same.frame_bits, Cert.Kernel.Same.frame_ideal, Cert.ReferenceIdeal.Attn.frame_ref, trivial, Cert.Agree.algebraic⟩

end Cert.Proof

end
